-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_graphs_and_scores [hPre_graphs_and_scores : Cert.Pre_graphs_and_scores.Facts] (m : (ℓ : Loc Cert.KernelIdeal.nD Cert.KernelIdeal.τ Cert.KernelIdeal.sig) → Buf (Elt Ideal) ℓ) : Prop :=
  ∀ c : Dev Cert.KernelIdeal.nD,
    (Cert.Pre_graphs_and_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_graphs_and_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graphs_and_scores [hPre_graphs_and_scores : Cert.Pre_graphs_and_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graphs_and_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_graphs_and_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_graphs_and_scores [hKernelIdeal : Cert.KernelIdeal.Facts] [hPre_graphs_and_scores : Cert.Pre_graphs_and_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graphs_and_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_graphs_and_scores [hReferenceIdeal : Cert.ReferenceIdeal.Facts] [hPre_graphs_and_scores : Cert.Pre_graphs_and_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graphs_and_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "pos_inf" .f32 0x7F61B1E6#32 ⊤
  ∧ IdealRules.named_const.Statement Cert.KernelIdeal.κ "neg_inf" .f32 0xF149F2CA#32 ⊥

def algebraic_KernelIdeal_ReferenceIdeal_pre_graphs_and_scores [hKernelIdeal : Cert.KernelIdeal.Facts] [hReferenceIdeal : Cert.ReferenceIdeal.Facts] [hPre_graphs_and_scores : Cert.Pre_graphs_and_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graphs_and_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_graphs_and_scores : Cert.Pre_graphs_and_scores.Facts),
    quiescent_Kernel (hKernel := hKernel)
    ∧ quiescent_KernelIdeal (hKernelIdeal := hKernelIdeal)
    ∧ quiescent_KernelIdeal_pre_graphs_and_scores (hKernelIdeal := hKernelIdeal) (hPre_graphs_and_scores := hPre_graphs_and_scores)
    ∧ quiescent_ReferenceIdeal (hReferenceIdeal := hReferenceIdeal)
    ∧ quiescent_ReferenceIdeal_pre_graphs_and_scores (hReferenceIdeal := hReferenceIdeal) (hPre_graphs_and_scores := hPre_graphs_and_scores)
    ∧ preserves_Kernel_KernelIdeal
    ∧ algebraic_KernelIdeal_ReferenceIdeal_pre_graphs_and_scores (hKernelIdeal := hKernelIdeal) (hReferenceIdeal := hReferenceIdeal) (hPre_graphs_and_scores := hPre_graphs_and_scores)
-- ==== Pre_graphs_and_scores.lean ====
abbrev S4096x128 : Shape := ⟨2, ![4096, 128]⟩
abbrev S4096x64 : Shape := ⟨2, ![4096, 64]⟩
abbrev S6x64x64 : Shape := ⟨3, ![6, 64, 64]⟩
abbrev S_ : Shape := ⟨0, ![]⟩

class Facts : Prop where
  bcast_S_S4096x64 : S_.BroadcastsInDim S4096x64 (![] : Fin 0 → Fin S4096x64.rank)
  bcast_S_S6x64x64 : S_.BroadcastsInDim S6x64x64 (![] : Fin 0 → Fin S6x64x64.rank)

variable [Facts]

def fn {F : FTy → Type} [FloatOps F] (main_arg0 : FVec F S4096x128 .f32) (main_arg1 : FVec F S4096x64 .f32) (main_arg2 : IVec S6x64x64 32) : IVec S4096x64 1 × IVec S6x64x64 1 :=
  let main_v0 : IVec S6x64x64 32 := iotaInDim S6x64x64 32 1
  let main_v1 : IVec S6x64x64 32 := iotaInDim S6x64x64 32 2
  let main_v2 : FVec F S4096x64 .f32 := Host.absf main_arg1
  let main_cst : FVec F S_ .f32 := constant S_ .f32 0x7F800000#32
  let main_v3 : FVec F S4096x64 .f32 := broadcastInDim S4096x64 ![] bcast_S_S4096x64 main_cst
  let main_v4 : IVec S4096x64 1 := cmpf .olt main_v2 main_v3
  let main_c : IVec S_ 32 := constantI S_ 32 0#32
  let main_v5 : IVec S6x64x64 32 := broadcastInDim S6x64x64 ![] bcast_S_S6x64x64 main_c
  let main_v6 : IVec S6x64x64 1 := cmpi .eq main_arg2 main_v5
  let main_c_0 : IVec S_ 32 := constantI S_ 32 1#32
  let main_v7 : IVec S6x64x64 32 := broadcastInDim S6x64x64 ![] bcast_S_S6x64x64 main_c_0
  let main_v8 : IVec S6x64x64 1 := cmpi .eq main_arg2 main_v7
  let main_v9 : IVec S6x64x64 1 := cmpi .ne main_v0 main_v1
  let main_v10 : IVec S6x64x64 1 := andi main_v8 main_v9
  let main_v11 : IVec S6x64x64 1 := ori main_v6 main_v10
  (main_v4, main_v11)
-- ==== Kernel.lean ====
abbrev S4096x128 : Shape := ⟨2, ![4096, 128]⟩
abbrev S4096x64 : Shape := ⟨2, ![4096, 64]⟩
abbrev S6x64x64 : Shape := ⟨3, ![6, 64, 64]⟩
abbrev S64x4096 : Shape := ⟨2, ![64, 4096]⟩
abbrev S8x64 : Shape := ⟨2, ![8, 64]⟩
abbrev S64x64 : Shape := ⟨2, ![64, 64]⟩
abbrev S1x64x64 : Shape := ⟨3, ![1, 64, 64]⟩
abbrev S64x64x64 : Shape := ⟨3, ![64, 64, 64]⟩
abbrev S64 : Shape := ⟨1, ![64]⟩
abbrev S64x1 : Shape := ⟨2, ![64, 1]⟩
abbrev S1x64 : Shape := ⟨2, ![1, 64]⟩
abbrev S4096x24 : Shape := ⟨2, ![4096, 24]⟩
abbrev S128x24 : Shape := ⟨2, ![128, 24]⟩
abbrev S128x64 : Shape := ⟨2, ![128, 64]⟩
abbrev S128x1 : Shape := ⟨2, ![128, 1]⟩
abbrev S128x8 : Shape := ⟨2, ![128, 8]⟩
abbrev S128 : Shape := ⟨1, ![128]⟩
abbrev S128x1x64 : Shape := ⟨3, ![128, 1, 64]⟩
abbrev S128x64x1 : Shape := ⟨3, ![128, 64, 1]⟩
abbrev S128x64x64 : Shape := ⟨3, ![128, 64, 64]⟩
abbrev S128x4096 : Shape := ⟨2, ![128, 4096]⟩
abbrev S4096x1 : Shape := ⟨2, ![4096, 1]⟩
abbrev S4096x65 : Shape := ⟨2, ![4096, 65]⟩

abbrev nBuf : Space → Nat
  | .hbm => 12
  | .vmem => 15
  | .smem => 0
  | _ => 0

abbrev bufTy : (tb : Table) → Fin (tcTables nBuf tb) → BufTy
  | .hbm, ⟨0, _⟩ => ⟨S4096x128, .f32⟩
  | .hbm, ⟨1, _⟩ => ⟨S4096x64, .f32⟩
  | .hbm, ⟨2, _⟩ => ⟨S6x64x64, .i32⟩
  | .hbm, ⟨3, _⟩ => ⟨S6x64x64, .f32⟩
  | .hbm, ⟨4, _⟩ => ⟨S64x4096, .f32⟩
  | .hbm, ⟨5, _⟩ => ⟨S64x4096, .f32⟩
  | .hbm, ⟨6, _⟩ => ⟨S8x64, .f32⟩
  | .hbm, ⟨7, _⟩ => ⟨S4096x24, .f32⟩
  | .hbm, ⟨8, _⟩ => ⟨S4096x64, .f32⟩
  | .hbm, ⟨9, _⟩ => ⟨S4096x64, .f32⟩
  | .hbm, ⟨10, _⟩ => ⟨S4096x1, .f32⟩
  | .hbm, ⟨11, _⟩ => ⟨S4096x65, .f32⟩
  | .local _ .vmem, ⟨0, _⟩ => ⟨S6x64x64, .f32⟩
  | .local _ .vmem, ⟨1, _⟩ => ⟨S64x4096, .f32⟩
  | .local _ .vmem, ⟨2, _⟩ => ⟨S64x4096, .f32⟩
  | .local _ .vmem, ⟨3, _⟩ => ⟨S8x64, .f32⟩
  | .local _ .vmem, ⟨4, _⟩ => ⟨S128x24, .f32⟩
  | .local _ .vmem, ⟨5, _⟩ => ⟨S128x24, .f32⟩
  | .local _ .vmem, ⟨6, _⟩ => ⟨S128x64, .f32⟩
  | .local _ .vmem, ⟨7, _⟩ => ⟨S128x64, .f32⟩
  | .local _ .vmem, ⟨8, _⟩ => ⟨S64x4096, .f32⟩
  | .local _ .vmem, ⟨9, _⟩ => ⟨S64x4096, .f32⟩
  | .local _ .vmem, ⟨10, _⟩ => ⟨S8x64, .f32⟩
  | .local _ .vmem, ⟨11, _⟩ => ⟨S128x64, .f32⟩
  | .local _ .vmem, ⟨12, _⟩ => ⟨S128x64, .f32⟩
  | .local _ .vmem, ⟨13, _⟩ => ⟨S128x64, .f32⟩
  | .local _ .vmem, ⟨14, _⟩ => ⟨S128x64, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := .none

abbrev stage0_0 : Fin 1 → Memref sig .tc .vmem S6x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x24 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F] [Named F]
def κ : String → Option EReal := fun
  | "neg_inf" => some ⊥
  | "pos_inf" => some ⊤
  | _ => none
-- ==== ReferenceIdeal.lean ====
abbrev S4096x128 : Shape := ⟨2, ![4096, 128]⟩
abbrev S4096x64 : Shape := ⟨2, ![4096, 64]⟩
abbrev S6x64x64 : Shape := ⟨3, ![6, 64, 64]⟩
abbrev S3 : Shape := ⟨1, ![3]⟩
abbrev S1x3 : Shape := ⟨2, ![1, 3]⟩
abbrev S_ : Shape := ⟨0, ![]⟩
abbrev S8 : Shape := ⟨1, ![8]⟩
abbrev S8x1 : Shape := ⟨2, ![8, 1]⟩
abbrev S8x3 : Shape := ⟨2, ![8, 3]⟩
abbrev S8x3x1 : Shape := ⟨3, ![8, 3, 1]⟩
abbrev S8x3x64x64 : Shape := ⟨4, ![8, 3, 64, 64]⟩
abbrev S8x1x3x1x1 : Shape := ⟨5, ![8, 1, 3, 1, 1]⟩
abbrev S1x8x3x64x64 : Shape := ⟨5, ![1, 8, 3, 64, 64]⟩
abbrev S8x8x3x64x64 : Shape := ⟨5, ![8, 8, 3, 64, 64]⟩
abbrev S8x8x64x64 : Shape := ⟨4, ![8, 8, 64, 64]⟩
abbrev S64x64x64 : Shape := ⟨3, ![64, 64, 64]⟩
abbrev S64 : Shape := ⟨1, ![64]⟩
abbrev S64x1 : Shape := ⟨2, ![64, 1]⟩
abbrev S64x2 : Shape := ⟨2, ![64, 2]⟩
abbrev S64x64 : Shape := ⟨2, ![64, 64]⟩
abbrev S8x8 : Shape := ⟨2, ![8, 8]⟩
abbrev S1x64x64 : Shape := ⟨3, ![1, 64, 64]⟩
abbrev S4096x8 : Shape := ⟨2, ![4096, 8]⟩
abbrev S4096 : Shape := ⟨1, ![4096]⟩
abbrev S4096x1 : Shape := ⟨2, ![4096, 1]⟩
abbrev S4096x3 : Shape := ⟨2, ![4096, 3]⟩
abbrev S4096x1x64 : Shape := ⟨3, ![4096, 1, 64]⟩
abbrev S4096x64x1 : Shape := ⟨3, ![4096, 64, 1]⟩
abbrev S4096x64x64 : Shape := ⟨3, ![4096, 64, 64]⟩
abbrev S4096x8x8 : Shape := ⟨3, ![4096, 8, 8]⟩
abbrev S4096x2 : Shape := ⟨2, ![4096, 2]⟩
abbrev S1x8 : Shape := ⟨2, ![1, 8]⟩
abbrev S4096x65 : Shape := ⟨2, ![4096, 65]⟩

abbrev nBuf : Space → Nat
  | .hbm => 325
  | .vmem => 0
  | .smem => 0
  | _ => 0

abbrev hbmTy0_0 (i : Nat) : BufTy := match i % 128 with
  | 0 => ⟨S4096x128, .f32⟩
  | 1 => ⟨S4096x64, .f32⟩
  | 2 => ⟨S6x64x64, .i32⟩
  | 3 => ⟨S3, .i32⟩
  | 4 => ⟨S1x3, .i32⟩
  | 5 => ⟨S_, .i32⟩
  | 6 => ⟨S1x3, .i32⟩
  | 7 => ⟨S1x3, .i32⟩
  | 8 => ⟨S8, .i32⟩
  | 9 => ⟨S8x1, .i32⟩
  | 10 => ⟨S3, .i32⟩
  | 11 => ⟨S_, .i32⟩
  | 12 => ⟨S3, .i32⟩
  | 13 => ⟨S3, .i32⟩
  | 14 => ⟨S1x3, .i32⟩
  | 15 => ⟨S8x3, .i32⟩
  | 16 => ⟨S8x3, .i32⟩
  | 17 => ⟨S8x3, .i32⟩
  | 18 => ⟨S_, .i32⟩
  | 19 => ⟨S8x3, .i32⟩
  | 20 => ⟨S8x3, .i32⟩
  | 21 => ⟨S8x3, .i32⟩
  | 22 => ⟨S8x3, .i32⟩
  | 23 => ⟨S_, .i32⟩
  | 24 => ⟨S8x3, .i32⟩
  | 25 => ⟨S8x3, .i1⟩
  | 26 => ⟨S_, .i32⟩
  | 27 => ⟨S8x3, .i32⟩
  | 28 => ⟨S8x3, .i32⟩
  | 29 => ⟨S8x3, .i32⟩
  | 30 => ⟨S8x3x1, .i32⟩
  | 31 => ⟨S8x3x64x64, .i32⟩
  | 32 => ⟨S8, .i32⟩
  | 33 => ⟨S8x1, .i32⟩
  | 34 => ⟨S3, .i32⟩
  | 35 => ⟨S1x3, .i32⟩
  | 36 => ⟨S8x3, .i32⟩
  | 37 => ⟨S8x3, .i32⟩
  | 38 => ⟨S8x3, .i32⟩
  | 39 => ⟨S_, .i32⟩
  | 40 => ⟨S8x3, .i32⟩
  | 41 => ⟨S8x3, .i32⟩
  | 42 => ⟨S8x1x3x1x1, .i32⟩
  | 43 => ⟨S1x8x3x64x64, .i32⟩
  | 44 => ⟨S8x8x3x64x64, .i32⟩
  | 45 => ⟨S8x8x3x64x64, .i32⟩
  | 46 => ⟨S8x8x3x64x64, .i32⟩
  | 47 => ⟨S_, .i32⟩
  | 48 => ⟨S8x8x64x64, .i32⟩
  | 49 => ⟨S64x64x64, .i32⟩
  | 50 => ⟨S64x64x64, .f32⟩
  | 51 => ⟨S64x64x64, .f32⟩
  | 52 => ⟨S64x64x64, .f32⟩
  | 53 => ⟨S_, .f32⟩
  | 54 => ⟨S64x64x64, .f32⟩
  | 55 => ⟨S64x64x64, .i1⟩
  | 56 => ⟨S64x64x64, .f32⟩
  | 57 => ⟨S64x64x64, .f32⟩
  | 58 => ⟨S64x64x64, .f32⟩
  | 59 => ⟨S_, .f32⟩
  | 60 => ⟨S64x64x64, .f32⟩
  | 61 => ⟨S64x64x64, .i1⟩
  | 62 => ⟨S64x64x64, .f32⟩
  | 63 => ⟨S64x64x64, .f32⟩
  | 64 => ⟨S64x64x64, .f32⟩
  | 65 => ⟨S_, .f32⟩
  | 66 => ⟨S64x64x64, .f32⟩
  | 67 => ⟨S64x64x64, .i1⟩
  | 68 => ⟨S64x64x64, .f32⟩
  | 69 => ⟨S64x64x64, .f32⟩
  | 70 => ⟨S64x64x64, .f32⟩
  | 71 => ⟨S_, .f32⟩
  | 72 => ⟨S64x64x64, .f32⟩
  | 73 => ⟨S64x64x64, .i1⟩
  | 74 => ⟨S64x64x64, .f32⟩
  | 75 => ⟨S64x64x64, .f32⟩
  | 76 => ⟨S64x64x64, .f32⟩
  | 77 => ⟨S_, .f32⟩
  | 78 => ⟨S64x64x64, .f32⟩
  | 79 => ⟨S64x64x64, .i1⟩
  | 80 => ⟨S64x64x64, .f32⟩
  | 81 => ⟨S64x64x64, .f32⟩
  | 82 => ⟨S64x64x64, .f32⟩
  | 83 => ⟨S_, .f32⟩
  | 84 => ⟨S64x64x64, .f32⟩
  | 85 => ⟨S64x64x64, .i1⟩
  | 86 => ⟨S64x64x64, .f32⟩
  | 87 => ⟨S64x64x64, .f32⟩
  | 88 => ⟨S64x64x64, .f32⟩
  | 89 => ⟨S_, .f32⟩
  | 90 => ⟨S64x64x64, .f32⟩
  | 91 => ⟨S64x64x64, .i1⟩
  | 92 => ⟨S64x64x64, .f32⟩
  | 93 => ⟨S64, .i32⟩
  | 94 => ⟨S64, .i32⟩
  | 95 => ⟨S_, .i32⟩
  | 96 => ⟨S64, .i32⟩
  | 97 => ⟨S64, .i1⟩
  | 98 => ⟨S_, .i32⟩
  | 99 => ⟨S64, .i32⟩
  | 100 => ⟨S64, .i32⟩
  | 101 => ⟨S64, .i32⟩
  | 102 => ⟨S_, .i32⟩
  | 103 => ⟨S64, .i32⟩
  | 104 => ⟨S64, .i1⟩
  | 105 => ⟨S_, .i32⟩
  | 106 => ⟨S64, .i32⟩
  | 107 => ⟨S64, .i32⟩
  | 108 => ⟨S64, .i32⟩
  | 109 => ⟨S64x1, .i32⟩
  | 110 => ⟨S64x1, .i32⟩
  | 111 => ⟨S64x2, .i32⟩
  | 112 => ⟨S64x64, .f32⟩
  | 113 => ⟨S_, .f32⟩
  | 114 => ⟨S64x64, .f32⟩
  | 115 => ⟨S64x64, .i1⟩
  | 116 => ⟨S_, .i1⟩
  | 117 => ⟨S64, .i1⟩
  | 118 => ⟨S8x8, .i1⟩
  | 119 => ⟨S8x8, .i1⟩
  | 120 => ⟨S64x64, .i32⟩
  | 121 => ⟨S64x64, .i32⟩
  | 122 => ⟨S_, .i32⟩
  | 123 => ⟨S64x64, .i32⟩
  | 124 => ⟨S64x64, .i32⟩
  | 125 => ⟨S64x64, .i1⟩
  | 126 => ⟨S64x64, .f32⟩
  | 127 => ⟨S1x64x64, .f32⟩
  | _ => ⟨S4096x128, .f32⟩

abbrev hbmTy0_1 (i : Nat) : BufTy := match i % 128 with
  | 0 => ⟨S64x64x64, .f32⟩
  | 1 => ⟨S64x64x64, .f32⟩
  | 2 => ⟨S8x8x64x64, .f32⟩
  | 3 => ⟨S4096x8, .f32⟩
  | 4 => ⟨S_, .f32⟩
  | 5 => ⟨S4096, .f32⟩
  | 6 => ⟨S_, .f32⟩
  | 7 => ⟨S4096, .f32⟩
  | 8 => ⟨S4096, .f32⟩
  | 9 => ⟨S_, .f32⟩
  | 10 => ⟨S4096, .f32⟩
  | 11 => ⟨S4096, .i1⟩
  | 12 => ⟨S4096x8, .f32⟩
  | 13 => ⟨S_, .f32⟩
  | 14 => ⟨S4096, .f32⟩
  | 15 => ⟨S_, .f32⟩
  | 16 => ⟨S4096, .f32⟩
  | 17 => ⟨S4096, .f32⟩
  | 18 => ⟨S_, .f32⟩
  | 19 => ⟨S4096, .f32⟩
  | 20 => ⟨S4096, .i1⟩
  | 21 => ⟨S4096x8, .f32⟩
  | 22 => ⟨S_, .f32⟩
  | 23 => ⟨S4096, .f32⟩
  | 24 => ⟨S_, .f32⟩
  | 25 => ⟨S4096, .f32⟩
  | 26 => ⟨S4096, .f32⟩
  | 27 => ⟨S_, .f32⟩
  | 28 => ⟨S4096, .f32⟩
  | 29 => ⟨S4096, .i1⟩
  | 30 => ⟨S4096x1, .i1⟩
  | 31 => ⟨S4096x1, .i1⟩
  | 32 => ⟨S4096x1, .i1⟩
  | 33 => ⟨S4096x3, .i1⟩
  | 34 => ⟨S4096x3, .i32⟩
  | 35 => ⟨S3, .i32⟩
  | 36 => ⟨S_, .i32⟩
  | 37 => ⟨S3, .i32⟩
  | 38 => ⟨S3, .i32⟩
  | 39 => ⟨S1x3, .i32⟩
  | 40 => ⟨S4096x3, .i32⟩
  | 41 => ⟨S4096x3, .i32⟩
  | 42 => ⟨S_, .i32⟩
  | 43 => ⟨S4096, .i32⟩
  | 44 => ⟨S4096x1x64, .f32⟩
  | 45 => ⟨S4096x64x1, .f32⟩
  | 46 => ⟨S4096x64x64, .f32⟩
  | 47 => ⟨S4096x64x64, .f32⟩
  | 48 => ⟨S4096x64x64, .f32⟩
  | 49 => ⟨S_, .f32⟩
  | 50 => ⟨S4096x64x64, .f32⟩
  | 51 => ⟨S4096x64x64, .f32⟩
  | 52 => ⟨S8x8x64x64, .f32⟩
  | 53 => ⟨S4096x8x8, .f32⟩
  | 54 => ⟨S4096, .i32⟩
  | 55 => ⟨S_, .i32⟩
  | 56 => ⟨S4096, .i32⟩
  | 57 => ⟨S4096, .i1⟩
  | 58 => ⟨S_, .i32⟩
  | 59 => ⟨S4096, .i32⟩
  | 60 => ⟨S4096, .i32⟩
  | 61 => ⟨S4096, .i32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S4096x1, .i32⟩
  | 71 => ⟨S4096x2, .i32⟩
  | 72 => ⟨S4096x8, .f32⟩
  | 73 => ⟨S_, .i32⟩
  | 74 => ⟨S4096, .i32⟩
  | 75 => ⟨S4096, .i1⟩
  | 76 => ⟨S_, .i32⟩
  | 77 => ⟨S4096, .i32⟩
  | 78 => ⟨S4096, .i32⟩
  | 79 => ⟨S4096, .i32⟩
  | 80 => ⟨S4096x1, .i32⟩
  | 81 => ⟨S4096x8, .i1⟩
  | 82 => ⟨S4096x8, .f32⟩
  | 83 => ⟨S_, .f32⟩
  | 84 => ⟨S4096x8, .f32⟩
  | 85 => ⟨S4096x8, .f32⟩
  | 86 => ⟨S_, .f32⟩
  | 87 => ⟨S4096x8, .f32⟩
  | 88 => ⟨S4096x8, .f32⟩
  | 89 => ⟨S4096x8, .f32⟩
  | 90 => ⟨S_, .f32⟩
  | 91 => ⟨S4096, .f32⟩
  | 92 => ⟨S4096x1, .f32⟩
  | 93 => ⟨S4096x8, .f32⟩
  | 94 => ⟨S4096x8, .i1⟩
  | 95 => ⟨S8, .i32⟩
  | 96 => ⟨S1x8, .i32⟩
  | 97 => ⟨S_, .i32⟩
  | 98 => ⟨S_, .i32⟩
  | 99 => ⟨S4096x8, .i32⟩
  | 100 => ⟨S4096x8, .i32⟩
  | 101 => ⟨S4096x8, .i32⟩
  | 102 => ⟨S_, .i32⟩
  | 103 => ⟨S4096, .i32⟩
  | 104 => ⟨S_, .i32⟩
  | 105 => ⟨S4096, .i32⟩
  | 106 => ⟨S4096, .i1⟩
  | 107 => ⟨S_, .i32⟩
  | 108 => ⟨S4096, .i32⟩
  | 109 => ⟨S4096, .i32⟩
  | 110 => ⟨S4096, .i32⟩
  | 111 => ⟨S_, .i32⟩
  | 112 => ⟨S4096, .i32⟩
  | 113 => ⟨S4096, .i1⟩
  | 114 => ⟨S_, .i32⟩
  | 115 => ⟨S4096, .i32⟩
  | 116 => ⟨S4096, .i32⟩
  | 117 => ⟨S4096, .i32⟩
  | 118 => ⟨S4096x1, .i32⟩
  | 119 => ⟨S4096x1, .i32⟩
  | 120 => ⟨S4096x2, .i32⟩
  | 121 => ⟨S4096x64x64, .i32⟩
  | 122 => ⟨S4096x64x64, .f32⟩
  | 123 => ⟨S_, .i32⟩
  | 124 => ⟨S4096, .i32⟩
  | 125 => ⟨S4096, .i1⟩
  | 126 => ⟨S_, .i32⟩
  | 127 => ⟨S4096, .i32⟩
  | _ => ⟨S4096x128, .f32⟩

abbrev hbmTy0_2 (i : Nat) : BufTy := match i % 128 with
  | 0 => ⟨S4096, .i32⟩
  | 1 => ⟨S4096, .i32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S4096x1, .i32⟩
  | 11 => ⟨S4096x2, .i32⟩
  | 12 => ⟨S4096x64x64, .f32⟩
  | 13 => ⟨S_, .f32⟩
  | 14 => ⟨S4096x64x64, .f32⟩
  | 15 => ⟨S4096x64x64, .i1⟩
  | 16 => ⟨S4096x1x64, .f32⟩
  | 17 => ⟨S_, .f32⟩
  | 18 => ⟨S_, .f32⟩
  | 19 => ⟨S4096x64x64, .f32⟩
  | 20 => ⟨S4096x64x64, .f32⟩
  | 21 => ⟨S4096x64x64, .f32⟩
  | 22 => ⟨S_, .f32⟩
  | 23 => ⟨S4096x64, .f32⟩
  | 24 => ⟨S_, .f32⟩
  | 25 => ⟨S4096x64x64, .f32⟩
  | 26 => ⟨S4096x64x64, .i1⟩
  | 27 => ⟨S4096x64x1, .f32⟩
  | 28 => ⟨S4096x1x64, .f32⟩
  | 29 => ⟨S4096x64x64, .f32⟩
  | 30 => ⟨S4096x64x64, .f32⟩
  | 31 => ⟨S4096x64x64, .i1⟩
  | 32 => ⟨S4096x64x64, .i1⟩
  | 33 => ⟨S_, .i1⟩
  | 34 => ⟨S4096, .i1⟩
  | 35 => ⟨S4096x1, .i1⟩
  | 36 => ⟨S4096x64, .i1⟩
  | 37 => ⟨S4096x64, .f32⟩
  | 38 => ⟨S4096x64x1, .f32⟩
  | 39 => ⟨S4096x64x1, .f32⟩
  | 40 => ⟨S_, .f32⟩
  | 41 => ⟨S4096x64x64, .f32⟩
  | 42 => ⟨S4096x64x64, .i1⟩
  | 43 => ⟨S4096x1x64, .f32⟩
  | 44 => ⟨S4096x64x64, .f32⟩
  | 45 => ⟨S4096x64x64, .f32⟩
  | 46 => ⟨S_, .f32⟩
  | 47 => ⟨S_, .f32⟩
  | 48 => ⟨S4096x64x64, .f32⟩
  | 49 => ⟨S4096x64x64, .f32⟩
  | 50 => ⟨S4096x64x64, .f32⟩
  | 51 => ⟨S4096x64x64, .f32⟩
  | 52 => ⟨S_, .f32⟩
  | 53 => ⟨S4096x64x64, .f32⟩
  | 54 => ⟨S4096x64x64, .f32⟩
  | 55 => ⟨S_, .f32⟩
  | 56 => ⟨S4096, .f32⟩
  | 57 => ⟨S_, .f32⟩
  | 58 => ⟨S4096, .f32⟩
  | 59 => ⟨S4096, .i1⟩
  | 60 => ⟨S_, .f32⟩
  | 61 => ⟨S4096, .f32⟩
  | 62 => ⟨S4096, .f32⟩
  | 63 => ⟨S_, .f32⟩
  | 64 => ⟨S_, .f32⟩
  | 65 => ⟨S4096, .f32⟩
  | 66 => ⟨S4096, .f32⟩
  | 67 => ⟨S4096x1, .f32⟩
  | 68 => ⟨S4096x65, .f32⟩
  | _ => ⟨S4096x128, .f32⟩

abbrev hbmTy (i : Nat) : BufTy := match i / 128 with
  | 0 => hbmTy0_0 i
  | 1 => hbmTy0_1 i
  | 2 => hbmTy0_2 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_8 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_9 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_10 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_11 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_call0_v0 : Ref sig .tc := ⟨.hbm, 93, rfl⟩
abbrev main_call0_v1 : Ref sig .tc := ⟨.hbm, 94, rfl⟩
abbrev main_call0_c : Ref sig .tc := ⟨.hbm, 95, rfl⟩
abbrev main_call0_v2 : Ref sig .tc := ⟨.hbm, 96, rfl⟩
abbrev main_call0_v3 : Ref sig .tc := ⟨.hbm, 97, rfl⟩
abbrev main_call0_c_0 : Ref sig .tc := ⟨.hbm, 98, rfl⟩
abbrev main_call0_v4 : Ref sig .tc := ⟨.hbm, 99, rfl⟩
abbrev main_call0_v5 : Ref sig .tc := ⟨.hbm, 100, rfl⟩
abbrev main_call0_v6 : Ref sig .tc := ⟨.hbm, 101, rfl⟩
abbrev main_call0_c_1 : Ref sig .tc := ⟨.hbm, 102, rfl⟩
abbrev main_call0_v7 : Ref sig .tc := ⟨.hbm, 103, rfl⟩
abbrev main_call0_v8 : Ref sig .tc := ⟨.hbm, 104, rfl⟩
abbrev main_call0_c_2 : Ref sig .tc := ⟨.hbm, 105, rfl⟩
abbrev main_call0_v9 : Ref sig .tc := ⟨.hbm, 106, rfl⟩
abbrev main_call0_v10 : Ref sig .tc := ⟨.hbm, 107, rfl⟩
abbrev main_call0_v11 : Ref sig .tc := ⟨.hbm, 108, rfl⟩
abbrev main_call0_v12 : Ref sig .tc := ⟨.hbm, 109, rfl⟩
abbrev main_call0_v13 : Ref sig .tc := ⟨.hbm, 110, rfl⟩
abbrev main_call0_v14 : Ref sig .tc := ⟨.hbm, 111, rfl⟩
abbrev main_v76 : Ref sig .tc := ⟨.hbm, 112, rfl⟩
abbrev main_cst_12 : Ref sig .tc := ⟨.hbm, 113, rfl⟩
abbrev main_v77 : Ref sig .tc := ⟨.hbm, 114, rfl⟩
abbrev main_v78 : Ref sig .tc := ⟨.hbm, 115, rfl⟩
abbrev main_c_13 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_c_14 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_15 : Ref sig .tc := ⟨.hbm, 132, rfl⟩
abbrev main_v93 : Ref sig .tc := ⟨.hbm, 133, rfl⟩
abbrev main_cst_16 : Ref sig .tc := ⟨.hbm, 134, rfl⟩
abbrev main_v94 : Ref sig .tc := ⟨.hbm, 135, rfl⟩
abbrev main_v95 : Ref sig .tc := ⟨.hbm, 136, rfl⟩
abbrev main_cst_17 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_18 : Ref sig .tc := ⟨.hbm, 141, rfl⟩
abbrev main_v99 : Ref sig .tc := ⟨.hbm, 142, rfl⟩
abbrev main_cst_19 : Ref sig .tc := ⟨.hbm, 143, rfl⟩
abbrev main_v100 : Ref sig .tc := ⟨.hbm, 144, rfl⟩
abbrev main_v101 : Ref sig .tc := ⟨.hbm, 145, rfl⟩
abbrev main_cst_20 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_21 : Ref sig .tc := ⟨.hbm, 150, rfl⟩
abbrev main_v105 : Ref sig .tc := ⟨.hbm, 151, rfl⟩
abbrev main_cst_22 : Ref sig .tc := ⟨.hbm, 152, rfl⟩
abbrev main_v106 : Ref sig .tc := ⟨.hbm, 153, rfl⟩
abbrev main_v107 : Ref sig .tc := ⟨.hbm, 154, rfl⟩
abbrev main_cst_23 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_c_24 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_c_25 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_call1_cst : Ref sig .tc := ⟨.hbm, 177, rfl⟩
abbrev main_call1_v0 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_c_26 : Ref sig .tc := ⟨.hbm, 183, rfl⟩
abbrev main_v131 : Ref sig .tc := ⟨.hbm, 184, rfl⟩
abbrev main_v132 : Ref sig .tc := ⟨.hbm, 185, rfl⟩
abbrev main_c_27 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_c_28 : Ref sig .tc := ⟨.hbm, 190, rfl⟩
abbrev main_v136 : Ref sig .tc := ⟨.hbm, 191, rfl⟩
abbrev main_v137 : Ref sig .tc := ⟨.hbm, 192, rfl⟩
abbrev main_c_29 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_c_30 : Ref sig .tc := ⟨.hbm, 201, rfl⟩
abbrev main_v145 : Ref sig .tc := ⟨.hbm, 202, rfl⟩
abbrev main_v146 : Ref sig .tc := ⟨.hbm, 203, rfl⟩
abbrev main_c_31 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_cst_32 : Ref sig .tc := ⟨.hbm, 211, rfl⟩
abbrev main_v153 : Ref sig .tc := ⟨.hbm, 212, rfl⟩
abbrev main_v154 : Ref sig .tc := ⟨.hbm, 213, rfl⟩
abbrev main_cst_33 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_cst_34 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_c_35 : Ref sig .tc := ⟨.hbm, 225, rfl⟩
abbrev main_call2_v0 : Ref sig .tc := ⟨.hbm, 226, rfl⟩
abbrev main_call2_v1 : Ref sig .tc := ⟨.hbm, 227, rfl⟩
abbrev main_call2_v2 : Ref sig .tc := ⟨.hbm, 228, rfl⟩
abbrev main_v164 : Ref sig .tc := ⟨.hbm, 229, rfl⟩
abbrev main_c_36 : Ref sig .tc := ⟨.hbm, 230, rfl⟩
abbrev main_v165 : Ref sig .tc := ⟨.hbm, 231, rfl⟩
abbrev main_c_37 : Ref sig .tc := ⟨.hbm, 232, rfl⟩
abbrev main_v166 : Ref sig .tc := ⟨.hbm, 233, rfl⟩
abbrev main_v167 : Ref sig .tc := ⟨.hbm, 234, rfl⟩
abbrev main_c_38 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_c_39 : Ref sig .tc := ⟨.hbm, 239, rfl⟩
abbrev main_v171 : Ref sig .tc := ⟨.hbm, 240, rfl⟩
abbrev main_v172 : Ref sig .tc := ⟨.hbm, 241, rfl⟩
abbrev main_c_40 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_c_41 : Ref sig .tc := ⟨.hbm, 251, rfl⟩
abbrev main_v181 : Ref sig .tc := ⟨.hbm, 252, rfl⟩
abbrev main_v182 : Ref sig .tc := ⟨.hbm, 253, rfl⟩
abbrev main_c_42 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_c_43 : Ref sig .tc := ⟨.hbm, 258, rfl⟩
abbrev main_v186 : Ref sig .tc := ⟨.hbm, 259, rfl⟩
abbrev main_v187 : Ref sig .tc := ⟨.hbm, 260, rfl⟩
abbrev main_c_44 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_cst_45 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_cst_46 : Ref sig .tc := ⟨.hbm, 273, rfl⟩
abbrev main_call3_v0 : Ref sig .tc := ⟨.hbm, 274, rfl⟩
abbrev main_call3_v1 : Ref sig .tc := ⟨.hbm, 275, rfl⟩
abbrev main_call3_v2 : Ref sig .tc := ⟨.hbm, 276, rfl⟩
abbrev main_v198 : Ref sig .tc := ⟨.hbm, 277, rfl⟩
abbrev main_cst_47 : Ref sig .tc := ⟨.hbm, 278, rfl⟩
abbrev main_v199 : Ref sig .tc := ⟨.hbm, 279, rfl⟩
abbrev main_cst_48 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_c_49 : Ref sig .tc := ⟨.hbm, 289, rfl⟩
abbrev main_v208 : Ref sig .tc := ⟨.hbm, 290, rfl⟩
abbrev main_v209 : Ref sig .tc := ⟨.hbm, 291, rfl⟩
abbrev main_call4_v0 : Ref sig .tc := ⟨.hbm, 292, rfl⟩
abbrev main_v210 : Ref sig .tc := ⟨.hbm, 293, rfl⟩
abbrev main_v211 : Ref sig .tc := ⟨.hbm, 294, rfl⟩
abbrev main_v212 : Ref sig .tc := ⟨.hbm, 295, rfl⟩
abbrev main_cst_50 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_cst_51 : Ref sig .tc := ⟨.hbm, 302, rfl⟩
abbrev main_call5_v0 : Ref sig .tc := ⟨.hbm, 303, rfl⟩
abbrev main_call5_v1 : Ref sig .tc := ⟨.hbm, 304, rfl⟩
abbrev main_v218 : Ref sig .tc := ⟨.hbm, 305, rfl⟩
abbrev main_v219 : Ref sig .tc := ⟨.hbm, 306, rfl⟩
abbrev main_v220 : Ref sig .tc := ⟨.hbm, 307, rfl⟩
abbrev main_call6_cst : Ref sig .tc := ⟨.hbm, 308, rfl⟩
abbrev main_call6_v0 : Ref sig .tc := ⟨.hbm, 309, rfl⟩
abbrev main_v221 : Ref sig .tc := ⟨.hbm, 310, rfl⟩
abbrev main_cst_52 : Ref sig .tc := ⟨.hbm, 311, rfl⟩
abbrev main_v222 : Ref sig .tc := ⟨.hbm, 312, rfl⟩
abbrev main_cst_53 : Ref sig .tc := ⟨.hbm, 313, rfl⟩
abbrev main_v223 : Ref sig .tc := ⟨.hbm, 314, rfl⟩
abbrev main_v224 : Ref sig .tc := ⟨.hbm, 315, rfl⟩
abbrev main_cst_54 : Ref sig .tc := ⟨.hbm, 316, rfl⟩
abbrev main_v225 : Ref sig .tc := ⟨.hbm, 317, rfl⟩
abbrev main_v226 : Ref sig .tc := ⟨.hbm, 318, rfl⟩
abbrev main_cst_55 : Ref sig .tc := ⟨.hbm, 319, rfl⟩
abbrev main_call7_v0 : Ref sig .tc := ⟨.hbm, 320, rfl⟩
abbrev main_call7_v1 : Ref sig .tc := ⟨.hbm, 321, rfl⟩
abbrev main_v227 : Ref sig .tc := ⟨.hbm, 322, rfl⟩
abbrev main_v228 : Ref sig .tc := ⟨.hbm, 323, rfl⟩
abbrev main_v229 : Ref sig .tc := ⟨.hbm, 324, rfl⟩

abbrev nD : Nat := 1
abbrev τ : Topo := Topo.v7x

variable {F : FTy → Type} [FloatOps F]
-- ==== Proof.Closure.lean ====
/- Reachability in a directed graph on finitely many nodes, and two ways to compute it by squaring.

   `within E m i j` says that `j` is reached from `i` by at most `m` edges. On `n` nodes, what is reachable at all is
   reachable within `n` edges, because the sets reached within 0, 1, 2, … edges grow strictly until they stop.
   `closeRefl` squares the relation "equal or an edge"; `closeTrans` keeps a relation and adds its square. Six squarings of
   the first on 64 nodes give reachability, seven rounds of the second give reachability by at least one edge. -/
module

public import Mathlib.Logic.Relation
public import Mathlib.Data.Fintype.Card

@[expose] public section

namespace Cert.Order

variable {n : ℕ} (E : Fin n → Fin n → Prop)

/-- `j` is reached from `i` by at most `m` edges. -/
def within : ℕ → Fin n → Fin n → Prop
  | 0 => fun i j => i = j
  | m + 1 => fun i j => within m i j ∨ ∃ k, within m i k ∧ E k j

/-- Reachability, a node reaching itself by no edge. -/
abbrev Reach : Fin n → Fin n → Prop := Relation.ReflTransGen E

/-- The relation "equal or an edge", squared `s` times. -/
def closeRefl : ℕ → Fin n → Fin n → Prop
  | 0 => fun i j => E i j ∨ i = j
  | s + 1 => fun i j => ∃ k, closeRefl s i k ∧ closeRefl s k j

/-- The edges, to which `s` times the square is added. -/
def closeTrans : ℕ → Fin n → Fin n → Prop
  | 0 => E
  | s + 1 => fun i j => closeTrans s i j ∨ ∃ k, closeTrans s i k ∧ closeTrans s k j

variable {E}

theorem within_mono {m m' : ℕ} (h : m ≤ m') {i j : Fin n} (w : within E m i j) : within E m' i j := by
  induction h with
  | refl => exact w
  | step _ ih => exact Or.inl ih

theorem within_reach {m : ℕ} {i j : Fin n} (w : within E m i j) : Reach E i j := by
  induction m generalizing j with
  | zero => cases w; exact .refl
  | succ m ih =>
    rcases w with w | ⟨k, w, e⟩
    · exact ih w
    · exact (ih w).tail e

theorem reach_within {i j : Fin n} (r : Reach E i j) : ∃ m, within E m i j := by
  induction r with
  | refl => exact ⟨0, rfl⟩
  | tail _ e ih => obtain ⟨m, w⟩ := ih; exact ⟨m + 1, Or.inr ⟨_, w, e⟩⟩

/-- A walk of at most `a + b` edges passes a node after at most `a` of them. -/
theorem within_split (a : ℕ) {b : ℕ} {i j : Fin n} (w : within E (a + b) i j) :
    ∃ k, within E a i k ∧ within E b k j := by
  induction b generalizing j with
  | zero => exact ⟨j, w, rfl⟩
  | succ b ih =>
    rcases w with w | ⟨k, w, e⟩
    · obtain ⟨l, h₁, h₂⟩ := ih w; exact ⟨l, h₁, Or.inl h₂⟩
    · obtain ⟨l, h₁, h₂⟩ := ih w; exact ⟨l, h₁, Or.inr ⟨k, h₂, e⟩⟩

open Classical in
/-- Either at least `m + 1` nodes are reached within `m` edges, or no further node is reached at all. -/
theorem within_grows (i : Fin n) (m : ℕ) :
    m + 1 ≤ (Finset.univ.filter (within E m i)).card ∨ ∀ m' j, within E m' i j → within E m i j := by
  induction m with
  | zero =>
    left
    exact Finset.card_pos.mpr ⟨i, by rw [Finset.mem_filter]; exact ⟨Finset.mem_univ i, rfl⟩⟩
  | succ m ih =>
    rcases ih with ih | ih
    · by_cases hs : ∀ j, within E (m + 1) i j → within E m i j
      · right
        intro m' j w
        refine Or.inl ?_
        induction m' generalizing j with
        | zero => exact within_mono (Nat.zero_le m) w
        | succ m' ihm =>
          rcases w with w | ⟨k, w, e⟩
          · exact ihm j w
          · exact hs j (Or.inr ⟨k, ihm k w, e⟩)
      · left
        push Not at hs
        obtain ⟨j, hj, hn⟩ := hs
        have : (Finset.univ.filter (within E m i)).card < (Finset.univ.filter (within E (m + 1) i)).card := by
          apply Finset.card_lt_card
          refine Finset.ssubset_iff_subset_ne.mpr ⟨fun k hk => ?_, fun he => ?_⟩
          · simp only [Finset.mem_filter, Finset.mem_univ, true_and] at hk ⊢
            exact Or.inl hk
          · have : j ∈ Finset.univ.filter (within E (m + 1) i) := by simpa using hj
            rw [← he] at this
            simp only [Finset.mem_filter, Finset.mem_univ, true_and] at this
            exact hn this
        omega
    · exact Or.inr fun m' j w => Or.inl (ih m' j w)

/-- What is reachable is reachable within as many edges as there are nodes. -/
theorem reach_within_card {i j : Fin n} (r : Reach E i j) : within E n i j := by
  classical
  obtain ⟨m, w⟩ := reach_within r
  rcases within_grows (E := E) i n with h | h
  · have := Finset.card_le_univ (Finset.univ.filter (within E n i))
    rw [Fintype.card_fin] at this
    omega
  · exact h m j w

theorem closeRefl_reach {s : ℕ} {i j : Fin n} (c : closeRefl E s i j) : Reach E i j := by
  induction s generalizing i j with
  | zero =>
    rcases c with e | rfl
    · exact .single e
    · exact .refl
  | succ s ih => obtain ⟨k, h₁, h₂⟩ := c; exact (ih h₁).trans (ih h₂)

theorem within_closeRefl {s : ℕ} {i j : Fin n} (w : within E (2 ^ s) i j) : closeRefl E s i j := by
  induction s generalizing i j with
  | zero =>
    rcases w with w | ⟨k, w, e⟩
    · exact Or.inr w
    · cases w; exact Or.inl e
  | succ s ih =>
    rw [Nat.pow_succ, Nat.mul_two] at w
    obtain ⟨k, h₁, h₂⟩ := within_split _ w
    exact ⟨k, ih h₁, ih h₂⟩

/-- Enough squarings of "equal or an edge" give reachability. -/
theorem closeRefl_iff {s : ℕ} (hs : n ≤ 2 ^ s) {i j : Fin n} : closeRefl E s i j ↔ Reach E i j :=
  ⟨closeRefl_reach, fun r => within_closeRefl (within_mono hs (reach_within_card r))⟩

theorem closeTrans_transGen {s : ℕ} {i j : Fin n} (c : closeTrans E s i j) : Relation.TransGen E i j := by
  induction s generalizing i j with
  | zero => exact .single c
  | succ s ih =>
    rcases c with c | ⟨k, h₁, h₂⟩
    · exact ih c
    · exact (ih h₁).trans (ih h₂)

theorem closeTrans_of_edge {s : ℕ} {i j : Fin n} (e : E i j) : closeTrans E s i j := by
  induction s with
  | zero => exact e
  | succ s ih => exact Or.inl ih

theorem closeRefl_closeTrans {s : ℕ} {i j : Fin n} (c : closeRefl E s i j) : i = j ∨ closeTrans E s i j := by
  induction s generalizing i j with
  | zero => exact c.symm
  | succ s ih =>
    obtain ⟨k, h₁, h₂⟩ := c
    rcases ih h₁ with rfl | h₁
    · rcases ih h₂ with rfl | h₂
      · exact Or.inl rfl
      · exact Or.inr (Or.inl h₂)
    · rcases ih h₂ with rfl | h₂
      · exact Or.inr (Or.inl h₁)
      · exact Or.inr (Or.inr ⟨k, h₁, h₂⟩)

/-- Enough rounds of adding the square give reachability by at least one edge. -/
theorem closeTrans_iff {s : ℕ} (hs : n ≤ 2 ^ s) {i j : Fin n} :
    closeTrans E (s + 1) i j ↔ Relation.TransGen E i j := by
  refine ⟨closeTrans_transGen, fun t => ?_⟩
  obtain ⟨k, e, r⟩ := Relation.TransGen.head'_iff.mp t
  rcases closeRefl_closeTrans ((closeRefl_iff hs).mpr r) with rfl | c
  · exact Or.inl (closeTrans_of_edge e)
  · exact Or.inr ⟨k, closeTrans_of_edge e, c⟩

/-- In a graph without an edge from a node to itself, a cycle is a pair of distinct nodes that reach each other. -/
theorem cycle_iff (hE : ∀ i, ¬ E i i) :
    (∃ i, Relation.TransGen E i i) ↔ ∃ i j, i ≠ j ∧ Reach E i j ∧ Reach E j i := by
  constructor
  · rintro ⟨i, t⟩
    obtain ⟨k, e, r⟩ := Relation.TransGen.head'_iff.mp t
    exact ⟨i, k, fun h => hE i (h ▸ e), .single e, r⟩
  · rintro ⟨i, j, hij, h₁, h₂⟩
    rcases Relation.reflTransGen_iff_eq_or_transGen.mp h₁ with h | h
    · exact absurd h.symm hij
    · exact ⟨i, Relation.TransGen.trans_left h h₂⟩

end Cert.Order

end
-- ==== Proof.Spec.lean ====
module

public import proofs.«01_k».proof.Proof.Closure
public import Idealize.ShloMosaic.PureOps.Ideal

/-!
# What both programs compute

Everything here is about one row: eight numbers per vote, sixty-four heights `y`, and the sixty-four
order relations that the six given graphs combine to. A relation `e i j` asks that `y j ≤ y i`.
-/

@[expose] public section

noncomputable section

namespace Cert.Order

open Finset

/-! ## Indicators -/

open Classical in
/-- One where `p` holds and zero elsewhere. -/
def ind (p : Prop) : EReal := if p then 1 else 0

theorem ind_true {p : Prop} (h : p) : ind p = 1 := if_pos h
theorem ind_false {p : Prop} (h : ¬ p) : ind p = 0 := if_neg h

theorem ind_congr {p q : Prop} (h : p ↔ q) : ind p = ind q := by rw [propext h]

theorem ind_nonneg (p : Prop) : 0 ≤ ind p := by
  by_cases h : p <;> simp [ind, h]

theorem ind_pos {p : Prop} : 0 < ind p ↔ p := by
  by_cases h : p <;> simp [ind, h]

theorem ind_eq_zero {p : Prop} : ind p = 0 ↔ ¬ p := by
  by_cases h : p <;> simp [ind, h]

theorem ind_mul (p q : Prop) : ind p * ind q = ind (p ∧ q) := by
  by_cases h : p <;> by_cases h' : q <;> simp [ind, h, h']

theorem ind_max (p q : Prop) : max (ind p) (ind q) = ind (p ∨ q) := by
  by_cases h : p <;> by_cases h' : q <;> simp [ind, h, h']

theorem ind_add_pos {p q : Prop} : 0 < ind p + ind q ↔ p ∨ q := by
  by_cases h : p <;> by_cases h' : q <;> simp [ind, h, h'] <;> decide

/-- A sum of indicators is positive where one of them is. -/
theorem sum_ind_pos {ι : Type} [Fintype ι] (P : ι → Prop) : 0 < ∑ i, ind (P i) ↔ ∃ i, P i := by
  constructor
  · intro h
    by_contra hn
    push Not at hn
    rw [Finset.sum_eq_zero (fun i _ => ind_false (hn i))] at h
    exact lt_irrefl _ h
  · rintro ⟨i, hi⟩
    exact lt_of_lt_of_le (ind_pos.2 hi)
      (Finset.single_le_sum (f := fun i => ind (P i)) (fun i _ => ind_nonneg _) (Finset.mem_univ i))

theorem sum_ind_eq_zero {ι : Type} [Fintype ι] (P : ι → Prop) : ∑ i, ind (P i) = 0 ↔ ∀ i, ¬ P i := by
  rw [← not_exists, ← sum_ind_pos, not_lt]
  exact ⟨fun h => h.le, fun h => le_antisymm h (Finset.sum_nonneg fun i _ => ind_nonneg _)⟩

/-- The number of pairs on the diagonal of a square of side `n`. -/
theorem sum_diag (n : ℕ) : ∑ i : Fin n, ∑ k : Fin n, ind (i = k) = ((n : ℝ) : EReal) := by
  have h : ∀ i : Fin n, ∑ k : Fin n, ind (i = k) = 1 := fun i => by
    rw [Finset.sum_eq_single i (fun k _ hk => ind_false fun h => hk h.symm) (fun h => absurd (Finset.mem_univ _) h)]
    exact ind_true rfl
  rw [Finset.sum_congr rfl fun i _ => h i]
  clear h
  induction n with
  | zero => simp
  | succ n ih =>
    rw [Fin.sum_univ_castSucc, ih]
    push_cast
    rfl

/-- Counting a reflexive relation on sixty-four points: the count passes sixty-four and a half
where two different points are related. -/
theorem count_gt {P : Fin 64 → Fin 64 → Prop} (hr : ∀ i, P i i) :
    ((64.5 : ℝ) : EReal) < ∑ i, ∑ k, ind (P i k) ↔ ∃ i k, i ≠ k ∧ P i k := by
  constructor
  · intro h
    by_contra hn
    push Not at hn
    have e : ∀ i k, ind (P i k) = ind (i = k) := fun i k => ind_congr
      ⟨fun hp => by by_contra hne; exact hn i k hne hp, fun hik => hik ▸ hr i⟩
    simp only [e] at h
    rw [sum_diag] at h
    have := EReal.coe_lt_coe_iff.1 h
    norm_num at this
  · rintro ⟨a, b, hne, hab⟩
    have h1 : ∀ i k, ind (i = k) + ind (i = a ∧ k = b) ≤ ind (P i k) := by
      intro i k
      by_cases hik : i = k
      · have : ¬ (i = a ∧ k = b) := fun h => hne (h.1 ▸ h.2 ▸ hik)
        rw [ind_true hik, ind_false this, ind_true (hik ▸ hr i), add_zero]
      · by_cases hk : i = a ∧ k = b
        · rw [ind_false hik, ind_true hk, zero_add, ind_true (by rw [hk.1, hk.2]; exact hab)]
        · rw [ind_false hik, ind_false hk, zero_add]; exact ind_nonneg _
    have h2 : ∑ i : Fin 64, ∑ k : Fin 64, (ind (i = k) + ind (i = a ∧ k = b)) ≤ ∑ i, ∑ k, ind (P i k) :=
      Finset.sum_le_sum fun i _ => Finset.sum_le_sum fun k _ => h1 i k
    have h3 : ∑ i : Fin 64, ∑ k : Fin 64, ind (i = a ∧ k = b) = 1 := by
      rw [Finset.sum_eq_single a, Finset.sum_eq_single b]
      · exact ind_true ⟨rfl, rfl⟩
      · exact fun k _ hk => ind_false fun h => hk h.2
      · exact fun h => absurd (Finset.mem_univ _) h
      · exact fun i _ hi => Finset.sum_eq_zero fun k _ => ind_false fun h => hi h.1
      · exact fun h => absurd (Finset.mem_univ _) h
    simp only [Finset.sum_add_distrib] at h2
    rw [sum_diag, h3] at h2
    refine lt_of_lt_of_le ?_ h2
    rw [← EReal.coe_one, ← EReal.coe_add, EReal.coe_lt_coe_iff]
    norm_num

/-! ## The relations -/

/-- The graph that choice `c` takes at stage `p`: two graphs per stage, the first stage's choice in
the highest bit of `c`. -/
def sel (c : Fin 8) (p : Fin 3) : Fin 6 := ⟨2 * p.val + (c.val / 2 ^ (2 - p.val)) % 2, by
  have := Nat.mod_lt (c.val / 2 ^ (2 - p.val)) (show 0 < 2 by decide); omega⟩

/-- The order relation of pattern `m` and choice `c`: the union of the chosen graphs of the stages
whose bit is set in `m`. -/
def adj (g : Fin 6 → Fin 64 → Fin 64 → Prop) (m c : Fin 8) (i j : Fin 64) : Prop :=
  ∃ p : Fin 3, m.val.testBit p.val = true ∧ g (sel c p) i j

theorem adj_irrefl {g : Fin 6 → Fin 64 → Fin 64 → Prop} (hg : ∀ a i, ¬ g a i i) (m c : Fin 8) (i : Fin 64) :
    ¬ adj g m c i i := fun ⟨_, _, h⟩ => hg _ i h

/-! ## Scores -/

/-- How far the heights break the relation, summed over its pairs. -/
def viol (y : Fin 64 → EReal) (e : Fin 64 → Fin 64 → Prop) : EReal :=
  ∑ i, ∑ j, max (y j - y i) 0 * ind (e i j)

open Classical in
/-- A thousand million where the relation has a cycle, nothing elsewhere. -/
def penalty (e : Fin 64 → Fin 64 → Prop) : EReal :=
  if ∃ i, Relation.TransGen e i i then ((1000000000 : ℝ) : EReal) else 0

/-- What a choice is ranked by. -/
def score (y : Fin 64 → EReal) (e : Fin 64 → Fin 64 → Prop) : EReal := viol y e + penalty e

/-- `c` is the first place where `s` is least. -/
def Best {n : ℕ} (s : Fin n → EReal) (c : Fin n) : Prop :=
  (∀ d, s c ≤ s d) ∧ ∀ d, d < c → s c < s d

theorem Best.unique {n : ℕ} {s : Fin n → EReal} {c d : Fin n} (hc : Best s c) (hd : Best s d) : c = d := by
  rcases lt_trichotomy c d with h | h | h
  · exact absurd (hd.2 c h) (not_lt.2 (hc.1 d))
  · exact h
  · exact absurd (hc.2 d h) (not_lt.2 (hd.1 c))

/-! ## The repair -/

open Classical in
/-- Each point raised to the greatest height it must be above. -/
def raised (y : Fin 64 → EReal) (e : Fin 64 → Fin 64 → Prop) (i : Fin 64) : EReal :=
  Finset.univ.fold max ⊥ fun j => if Reach e i j then y j else ⊥

/-- The heights already obey the relation. -/
def Sat (y : Fin 64 → EReal) (e : Fin 64 → Fin 64 → Prop) : Prop := ∀ i j, e i j → y j ≤ y i

open Classical in
/-- The heights themselves where they obey the relation, the raised ones elsewhere. -/
def repaired (y : Fin 64 → EReal) (e : Fin 64 → Fin 64 → Prop) (i : Fin 64) : EReal :=
  if Sat y e then y i else raised y e i

open Classical in
/-- The last column: above every repaired height by what is still broken, or `-∞` where nothing is. -/
def bottom (y : Fin 64 → EReal) (e : Fin 64 → Fin 64 → Prop) : EReal :=
  if 0 < viol (repaired y e) e then Finset.univ.fold max ⊥ (repaired y e) + viol (repaired y e) e else ⊥

open Classical in
/-- The pattern of a row: bit `p` is set where the `p`-th vote sum is positive. -/
def patt (s : Fin 3 → EReal) : Fin 8 :=
  ⟨(if 0 < s 0 then 1 else 0) + (if 0 < s 1 then 2 else 0) + (if 0 < s 2 then 4 else 0), by
    split_ifs <;> decide⟩

/-! ## Scores are below `+∞` where the heights are finite -/

theorem viol_term_lt_top {y : Fin 64 → EReal} (hy : ∀ i, y i ≠ ⊤ ∧ y i ≠ ⊥) (i j : Fin 64) (p : Prop) :
    max (y j - y i) 0 * ind p ≠ ⊤ := by
  obtain ⟨a, ha⟩ : ∃ a : ℝ, y i = a := ⟨(y i).toReal, (EReal.coe_toReal (hy i).1 (hy i).2).symm⟩
  obtain ⟨b, hb⟩ : ∃ b : ℝ, y j = b := ⟨(y j).toReal, (EReal.coe_toReal (hy j).1 (hy j).2).symm⟩
  by_cases h : p
  · rw [ind_true h, mul_one, ha, hb, ← EReal.coe_sub, ← EReal.coe_zero, ← EReal.coe_strictMono.monotone.map_max]
    exact EReal.coe_ne_top _
  · rw [ind_false h, mul_zero]; exact EReal.zero_ne_top

theorem sum_ne_top {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact EReal.add_ne_top (h a (Finset.mem_insert_self _ _))
      (ih fun i hi => h i (Finset.mem_insert_of_mem hi))

theorem score_lt_top {y : Fin 64 → EReal} (hy : ∀ i, y i ≠ ⊤ ∧ y i ≠ ⊥) (e : Fin 64 → Fin 64 → Prop) :
    score y e < ⊤ := by
  refine lt_top_iff_ne_top.2 (EReal.add_ne_top ?_ ?_)
  · exact sum_ne_top _ _ fun i _ => sum_ne_top _ _ fun j _ => viol_term_lt_top hy i j _
  · unfold penalty; split_ifs
    · exact EReal.coe_ne_top _
    · exact EReal.zero_ne_top

end Cert.Order

end
-- ==== Proof.Select.lean ====
module

public import proofs.«01_k».proof.Proof.Spec
public import Idealize.ShloMosaic.Lib.Pointwise

/-!
# First minima read off words

Both programs find the first place where a list of numbers is least by comparing each number with the
least one, keeping its position where they agree and a position past the end elsewhere, and taking the
least position kept.
-/

@[expose] public section

noncomputable section

namespace Cert.Order

open Finset Idealize.ShloMosaic

theorem toInt_minsi (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.1 h)]

theorem toInt_ofNat_small {k : ℕ} (h : k < 2 ^ 31) : (BitVec.ofNat 32 k).toInt = (k : ℤ) := by
  rw [BitVec.toInt_eq_toNat_cond, BitVec.toNat_ofNat, Nat.mod_eq_of_lt (by omega), if_pos (by omega)]

/-- The least of a family of words, read as a signed number. -/
theorem toInt_fold_minsi {n : ℕ} (w : BitVec 32) (f : Fin n → BitVec 32) :
    (Finset.univ.fold IntOp.minsi w f).toInt = Finset.univ.fold min w.toInt (fun x => (f x).toInt) :=
  (Finset.fold_hom (op := IntOp.minsi) (op' := (min : ℤ → ℤ → ℤ)) (m := BitVec.toInt) toInt_minsi).symm

/-- There is a first minimum. -/
theorem exists_best {n : ℕ} (hn : 0 < n) (f : Fin n → EReal) : ∃ c, Best f c := by
  classical
  obtain ⟨c0, -, hc0⟩ := Finset.exists_min_image Finset.univ f ⟨⟨0, hn⟩, Finset.mem_univ _⟩
  have hne : (Finset.univ.filter fun c => f c = f c0).Nonempty := ⟨c0, by simp⟩
  refine ⟨(Finset.univ.filter fun c => f c = f c0).min' hne, ?_, ?_⟩
  · intro d
    have := Finset.min'_mem _ hne
    rw [Finset.mem_filter] at this
    rw [this.2]; exact hc0 d (Finset.mem_univ _)
  · intro d hd
    have h1 := Finset.min'_mem _ hne
    rw [Finset.mem_filter] at h1
    rw [h1.2]
    refine lt_of_le_of_ne (hc0 d (Finset.mem_univ _)) fun h => ?_
    exact absurd (Finset.min'_le _ d (by simp [h])) (not_le.2 hd)

theorem Best.fold_min {n : ℕ} {f : Fin n → EReal} {c : Fin n} (h : Best f c) :
    Finset.univ.fold min ⊤ f = f c := by
  refine le_antisymm ?_ ?_
  · rw [Finset.fold_min_le]; exact Or.inr ⟨c, Finset.mem_univ _, le_rfl⟩
  · rw [Finset.le_fold_min]; exact ⟨le_top, fun d _ => h.1 d⟩

open Classical in
/-- The least kept position is the first minimum's. -/
theorem first_min {n N : ℕ} (hN : n ≤ N) (hN' : N < 2 ^ 31) {f : Fin n → EReal} {c : Fin n} (h : Best f c) :
    Finset.univ.fold IntOp.minsi 2147483647#32
      (fun x : Fin n => if f x = Finset.univ.fold min ⊤ f then BitVec.ofNat 32 x.val else BitVec.ofNat 32 N)
      = BitVec.ofNat 32 c.val := by
  apply BitVec.eq_of_toInt_eq
  have hc : c.val < n := c.isLt
  rw [toInt_fold_minsi, toInt_ofNat_small (k := c.val) (by omega), h.fold_min]
  refine le_antisymm ?_ ?_
  · rw [Finset.fold_min_le]
    refine Or.inr ⟨c, Finset.mem_univ _, ?_⟩
    rw [if_pos rfl, toInt_ofNat_small (k := c.val) (by omega)]
  · rw [Finset.le_fold_min]
    refine ⟨?_, fun x _ => ?_⟩
    · have : (2147483647#32).toInt = 2147483647 := by decide
      rw [this]; omega
    · by_cases hx : f x = f c
      · rw [if_pos hx, toInt_ofNat_small (k := x.val) (by omega)]
        by_contra hlt
        exact absurd (h.2 x (Fin.lt_def.2 (by omega))) (by rw [hx]; exact lt_irrefl _)
      · rw [if_neg hx, toInt_ofNat_small (k := N) (by omega)]
        omega

/-- Where only the positions `8 m + c` count and the others are at `+∞`, the first minimum of the
whole list is that of its part. -/
theorem best_part {s : Fin 8 → EReal} {f : Fin 64 → EReal} {m c : Fin 8} (h : Best s c) (hs : ∀ d, s d < ⊤)
    (hf : ∀ k : Fin 64, f k = if hk : k.val / 8 = m.val then s ⟨k.val % 8, Nat.mod_lt _ (by decide)⟩ else ⊤) :
    Best f ⟨8 * m.val + c.val, by omega⟩ := by
  have hc : f ⟨8 * m.val + c.val, by omega⟩ = s c := by
    rw [hf, dif_pos (by show (8 * m.val + c.val) / 8 = m.val; omega)]
    congr 1
    apply Fin.ext
    show (8 * m.val + c.val) % 8 = c.val
    omega
  refine ⟨fun d => ?_, fun d hd => ?_⟩
  · rw [hc, hf d]
    split_ifs with hk
    · exact h.1 _
    · exact le_top
  · rw [hc, hf d]
    split_ifs with hk
    · refine h.2 _ (Fin.lt_def.2 ?_)
      have : d.val < 8 * m.val + c.val := hd
      show d.val % 8 < c.val
      omega
    · exact hs c

/-- A sum that keeps one position by comparing words. -/
theorem sum_onehot (k : Fin 64) (f : Fin 64 → EReal) :
    ∑ x : Fin 64, (if BitVec.ofNat 32 x.val = BitVec.ofNat 32 k.val then f x else 0) = f k := by
  have : ∀ x : Fin 64, (BitVec.ofNat 32 x.val = BitVec.ofNat 32 k.val) ↔ x = k := by
    intro x
    constructor
    · intro h
      have := congrArg BitVec.toNat h
      rw [BitVec.toNat_ofNat, BitVec.toNat_ofNat] at this
      exact Fin.ext (by omega)
    · rintro rfl; rfl
  simp only [this]
  rw [Finset.sum_ite_eq' Finset.univ k f, if_pos (Finset.mem_univ _)]

/-- A sum over the flattened pairs. -/
theorem sum_pairs (f : Fin 64 → Fin 64 → EReal) :
    ∑ l : Fin 4096, f ⟨l.val / 64, by omega⟩ ⟨l.val % 64, Nat.mod_lt _ (by decide)⟩ = ∑ i, ∑ j, f i j := by
  rw [← Fintype.sum_prod_type' (f := f)]
  refine Fintype.sum_equiv
    { toFun := fun l : Fin 4096 => ((⟨l.val / 64, by omega⟩ : Fin 64), (⟨l.val % 64, Nat.mod_lt _ (by decide)⟩ : Fin 64))
      invFun := fun q => ⟨64 * q.1.val + q.2.val, by omega⟩
      left_inv := fun l => Fin.ext (by simp only; omega)
      right_inv := fun q => Prod.ext (Fin.ext (by simp only; omega)) (Fin.ext (by simp only; omega)) } _ _ (fun l => rfl)

end Cert.Order

end
-- ==== Proof.KTables.lean ====
module

public import proofs.«01_k».proof.Proof.Gen.KernelIdeal.Frame
public import proofs.«01_k».proof.Proof.Select
public import Idealize.ShloMosaic.Lib.Pointwise

/-!
# The tables the first kernel builds

From the six graphs the first kernel builds, for each of the sixty-four pairs of a pattern and a choice,
the union of the chosen graphs, its reflexive closure by six squarings, and a penalty where a cycle
exists. Row `8 m + c` belongs to pattern `m` and choice `c`.
-/

@[expose] public section

set_option maxRecDepth 16384

noncomputable section

namespace Cert.Tables

open Cert.KernelIdeal Cert.KernelIdeal.Gen Cert.Order Idealize.ShloMosaic

/-- A bit widened to a word and read as a number. -/
theorem sitofp_bit (p : Prop) [Decidable p] :
    FloatOps.sitofp (F := Ideal) .f32 (BitVec.setWidth 32 (BitVec.ofBool (decide p))) = ind p := by
  show (((BitVec.setWidth 32 (BitVec.ofBool (decide p))).toInt : ℝ) : EReal) = ind p
  by_cases h : p
  · rw [decide_eq_true h, ind_true h]
    have : (BitVec.setWidth 32 (BitVec.ofBool true)).toInt = 1 := by decide
    rw [this]; simp
  · rw [decide_eq_false h, ind_false h]
    have : (BitVec.setWidth 32 (BitVec.ofBool false)).toInt = 0 := by decide
    rw [this]; simp

theorem ofNat_inj {i j : Fin 64} : BitVec.ofNat 32 i.val = BitVec.ofNat 32 j.val ↔ i = j := by
  constructor
  · intro h
    have := congrArg BitVec.toNat h
    rw [BitVec.toNat_ofNat, BitVec.toNat_ofNat] at this
    exact Fin.ext (by omega)
  · rintro rfl; rfl

theorem sitofp_eq (i j : Fin 64) :
    FloatOps.sitofp (F := Ideal) .f32
      (BitVec.setWidth 32 (IntOp.cmpi .eq (BitVec.ofNat 32 i.val) (BitVec.ofNat 32 j.val))) = ind (i = j) := by
  have : IntOp.cmpi .eq (BitVec.ofNat 32 i.val) (BitVec.ofNat 32 j.val) = BitVec.ofBool (decide (i = j)) := by
    unfold IntOp.cmpi
    congr 1
    by_cases h : i = j
    · subst h; simp
    · simp [h, ofNat_inj]
  rw [this, sitofp_bit]

/-! ## Squaring -/

/-- The square of each of sixty-four matrices. -/
def sq (v : FVec Ideal S64x64x64 .f32) : FVec Ideal S64x64x64 .f32 :=
  matmul dot_S64x64x64_S64x64x64_S64x64x64_2_1_1_2_0_0 none v v (constant S64x64x64 .f32 0x00000000#32)

/-- One where an entry is positive, zero elsewhere. -/
def thr (v : FVec Ideal S64x64x64 .f32) : FVec Ideal S64x64x64 .f32 :=
  sitofp .f32 (extui 32 (cmpf .ogt v (broadcast S64x64x64 (Scalar.ofBits (F := Ideal) .f32 0x00000000#32))) natLt_1_32)

theorem sq_apply (v : FVec Ideal S64x64x64 .f32) (k i j : Fin 64) :
    sq v (ix3 k i j) = ∑ x : Fin 64, v (ix3 k i x) * v (ix3 k x j) := by
  pointwise [sq]

theorem thr_sq {v : FVec Ideal S64x64x64 .f32} {P : Fin 64 → Fin 64 → Fin 64 → Prop}
    (h : ∀ k i j, v (ix3 k i j) = ind (P k i j)) (k i j : Fin 64) :
    thr (sq v) (ix3 k i j) = ind (∃ x, P k i x ∧ P k x j) := by
  have e : thr (sq v) (ix3 k i j)
      = FloatOps.sitofp (F := Ideal) .f32 (BitVec.setWidth 32 (BitVec.ofBool (decide (0 < sq v (ix3 k i j))))) := by
    pointwise [thr]
  rw [e, sitofp_bit, sq_apply]
  simp only [h, ind_mul]
  exact ind_congr (sum_ind_pos _)

/-- One round of squaring, thresholded, advances the closure by one step. -/
theorem thr_step {v : FVec Ideal S64x64x64 .f32} {E : Fin 64 → Fin 64 → Fin 64 → Prop} {s : ℕ}
    (h : ∀ k i j, v (ix3 k i j) = ind (closeRefl (E k) s i j)) (k i j : Fin 64) :
    thr (sq v) (ix3 k i j) = ind (closeRefl (E k) (s + 1) i j) :=
  thr_sq (P := fun k i j => closeRefl (E k) s i j) h k i j

/-! ## The union of the chosen graphs -/

/-- The sixty-four unions, stacked. -/
def stack (x0 : Vec Ideal S6x64x64 .f32) : FVec Ideal S64x64x64 .f32 :=
  k0_pay118 (k0_pay122 x0) (k0_pay123 x0) (k0_pay124 x0) (k0_pay125 x0) (k0_pay126 x0) (k0_pay127 x0) (k0_pay128 x0) (k0_pay129 x0) (k0_pay130 x0) (k0_pay131 x0) (k0_pay132 x0) (k0_pay133 x0) (k0_pay134 x0) (k0_pay135 x0) (k0_pay136 x0) (k0_pay137 x0) (k0_pay138 x0) (k0_pay139 x0) (k0_pay140 x0) (k0_pay141 x0) (k0_pay142 x0) (k0_pay143 x0) (k0_pay144 x0) (k0_pay145 x0) (k0_pay146 x0) (k0_pay147 x0) (k0_pay148 x0) (k0_pay149 x0) (k0_pay150 x0) (k0_pay151 x0) (k0_pay152 x0) (k0_pay153 x0) (k0_pay154 x0) (k0_pay155 x0) (k0_pay156 x0) (k0_pay157 x0) (k0_pay158 x0) (k0_pay159 x0) (k0_pay160 x0) (k0_pay161 x0) (k0_pay162 x0) (k0_pay163 x0) (k0_pay164 x0) (k0_pay165 x0) (k0_pay166 x0) (k0_pay167 x0) (k0_pay168 x0) (k0_pay169 x0) (k0_pay170 x0) (k0_pay171 x0) (k0_pay172 x0) (k0_pay173 x0) (k0_pay174 x0) (k0_pay175 x0) (k0_pay176 x0) (k0_pay177 x0) (k0_pay178 x0) (k0_pay179 x0) (k0_pay180 x0) (k0_pay181 x0) (k0_pay182 x0) (k0_pay183 x0) (k0_pay184 x0) (k0_pay185 x0)

theorem adj_iff (g : Fin 6 → Fin 64 → Fin 64 → Prop) (m c : Fin 8) (i j : Fin 64) :
    adj g m c i j ↔ (m.val.testBit 0 = true ∧ g (sel c 0) i j) ∨ (m.val.testBit 1 = true ∧ g (sel c 1) i j)
      ∨ (m.val.testBit 2 = true ∧ g (sel c 2) i j) := by
  unfold adj
  rw [Fin.exists_fin_succ, Fin.exists_fin_succ, Fin.exists_fin_succ]
  simp [Fin.exists_fin_zero]

set_option maxHeartbeats 2000000 in
/-- Slab `k` of the stack is the union of the graphs that pattern `k / 8` and choice `k % 8` take. -/
theorem stack_at {x0 : Vec Ideal S6x64x64 .f32} {g : Fin 6 → Fin 64 → Fin 64 → Prop}
    (hx : ∀ a i j, x0 (ix3 a i j) = ind (g a i j)) (k i j : Fin 64) :
    stack x0 (ix3 k i j) = ind (adj g ⟨k.val / 8, by omega⟩ ⟨k.val % 8, by omega⟩ i j) := by
  pointwise [stack, k0_pay118]
  fin_vals k with hk
  all_goals simp only [hk, Nat.reduceSub, Nat.reduceLT, ↓reduceDIte]
  all_goals unfold_payloads
  all_goals pointwise []
  all_goals try simp only [hx, ind_max]
  all_goals first
    | (refine ind_congr ?_
       rw [adj_iff]
       simp [sel, Nat.testBit, or_assoc]
       done)
    | (refine (ind_false ?_).symm
       rw [adj_iff]
       simp [Nat.testBit])

theorem out0_1_eq (x0 : Vec Ideal S6x64x64 .f32) : out0_1 x0 = View.canon [⟨r0_1, k0_pay2 (stack x0)⟩] := rfl

/-- Six squarings start here: the relation or equality. -/
def start (x0 : Vec Ideal S6x64x64 .f32) : FVec Ideal S64x64x64 .f32 :=
  minimumf (addf (stack x0) (broadcastTo S64x64x64 (shapeCast S1x64x64 (k0_pay6 (F := Ideal)) shapeCasts_S64x64_S1x64x64)
    broadcasts_S1x64x64_S64x64x64)) (broadcast S64x64x64 (Scalar.ofBits (F := Ideal) .f32 0x3F800000#32))

theorem pay186_eq (x0 : Vec Ideal S6x64x64 .f32) :
    k0_pay186 x0 = sq (thr (sq (thr (sq (thr (sq (thr (sq (start x0))))))))) := rfl

theorem pay1_eq (v : FVec Ideal S64x64x64 .f32) :
    k0_pay1 v (Scalar.ofBits .f32 0x00000000#32) = thr (sq (thr v)) := rfl

theorem pay6_at (i j : Fin 64) : k0_pay6 (F := Ideal) (ix2 i j) = ind (i = j) := by
  pointwise [k0_pay6]
  exact sitofp_eq i j

theorem start_at {x0 : Vec Ideal S6x64x64 .f32} {g : Fin 6 → Fin 64 → Fin 64 → Prop}
    (hx : ∀ a i j, x0 (ix3 a i j) = ind (g a i j)) (k i j : Fin 64) :
    start x0 (ix3 k i j) = ind (closeRefl (adj g ⟨k.val / 8, by omega⟩ ⟨k.val % 8, by omega⟩) 0 i j) := by
  have e : start x0 (ix3 k i j)
      = min (stack x0 (ix3 k i j) + k0_pay6 (F := Ideal) (ix2 i j)) (Ideal.ofBits .f32 0x3F800000#32) := by
    pointwise [start]
  rw [e, stack_at hx, pay6_at, Ideal.ofBits_one_f32]
  show _ = ind (_ ∨ _)
  by_cases h : adj g ⟨k.val / 8, by omega⟩ ⟨k.val % 8, by omega⟩ i j <;> by_cases h' : i = j
  · rw [ind_true h, ind_true h', ind_true (Or.inl h)]
    exact min_eq_right (le_add_of_nonneg_right zero_le_one)
  · rw [ind_true h, ind_false h', ind_true (Or.inl h), add_zero, min_self]
  · rw [ind_false h, ind_true h', ind_true (Or.inr h'), zero_add, min_self]
  · rw [ind_false h, ind_false h', ind_false (not_or.2 ⟨h, h'⟩), zero_add]
    exact min_eq_left zero_le_one

/-- After six squarings slab `k` holds reachability. -/
theorem closed_at {x0 : Vec Ideal S6x64x64 .f32} {g : Fin 6 → Fin 64 → Fin 64 → Prop}
    (hx : ∀ a i j, x0 (ix3 a i j) = ind (g a i j)) (k i j : Fin 64) :
    k0_pay1 (k0_pay186 x0) (Scalar.ofBits .f32 0x00000000#32) (ix3 k i j)
      = ind (Reach (adj g ⟨k.val / 8, by omega⟩ ⟨k.val % 8, by omega⟩) i j) := by
  rw [pay1_eq, pay186_eq]
  have h1 := thr_step (E := fun k => adj g ⟨k.val / 8, by omega⟩ ⟨k.val % 8, by omega⟩) (start_at hx)
  have h6 := thr_step (thr_step (thr_step (thr_step (thr_step h1))))
  rw [h6 k i j]
  exact ind_congr (closeRefl_iff (by norm_num))

/-! ## The penalty -/

theorem lit_645 : Ideal.ofBits .f32 0x42810000#32 = ((64.5 : ℝ) : EReal) := by
  simp [Ideal.ofBits, Ideal.ieee, -EReal.coe_mul]; norm_num

theorem lit_1e9 : Ideal.ofBits .f32 0x4E6E6B28#32 = ((1000000000 : ℝ) : EReal) := by
  simp [Ideal.ofBits, Ideal.ieee, -EReal.coe_mul]; norm_num

theorem trace_eq (P : Fin 64 → Fin 64 → Prop) :
    ∑ i : Fin 64, ∑ j : Fin 64, (∑ x : Fin 64, ind (P i x) * ind (P x j)) * ind (i = j)
      = ∑ i : Fin 64, ∑ x : Fin 64, ind (P i x ∧ P x i) := by
  refine Finset.sum_congr rfl fun i _ => ?_
  rw [Finset.sum_eq_single i (fun j _ hj => by rw [ind_false (fun h => hj h.symm), mul_zero])
    (fun h => absurd (Finset.mem_univ _) h), ind_true rfl, mul_one]
  simp only [ind_mul]

theorem pay4_at (e : FVec Ideal S64x64 .f32) (v : FVec Ideal S64x64x64 .f32) (r : Fin 8) (k : Fin 64) :
    k0_pay4 e v (Scalar.ofBits .f32 0x00000000#32) (ix2 r k)
      = ∑ x : Fin 64, (if Ideal.ofBits .f32 0x42810000#32 < ∑ i : Fin 64, ∑ j : Fin 64,
          (∑ z : Fin 64, k0_pay1 v (Scalar.ofBits .f32 0x00000000#32) (ix3 x i z)
            * k0_pay1 v (Scalar.ofBits .f32 0x00000000#32) (ix3 x z j)) * e (ix2 i j)
        then Ideal.ofBits .f32 0x4E6E6B28#32 else 0) * e (ix2 x k) := by
  pointwise [k0_pay4]

/-- Column `k` of the penalty table. -/
theorem pen_at {x0 : Vec Ideal S6x64x64 .f32} {g : Fin 6 → Fin 64 → Fin 64 → Prop}
    (hx : ∀ a i j, x0 (ix3 a i j) = ind (g a i j)) (hg : ∀ a i, ¬ g a i i) (r : Fin 8) (k : Fin 64) :
    k0_pay4 (k0_pay121 x0) (k0_pay186 x0) (Scalar.ofBits .f32 0x00000000#32) (ix2 r k)
      = penalty (adj g ⟨k.val / 8, by omega⟩ ⟨k.val % 8, by omega⟩) := by
  have e := pay4_at (k0_pay121 x0) (k0_pay186 x0) r k
  rw [e]
  have h6 : ∀ i j, k0_pay121 x0 (ix2 i j) = ind (i = j) := pay6_at
  simp only [closed_at hx, h6, trace_eq]
  rw [Finset.sum_eq_single k (fun j _ hj => by rw [ind_false hj, mul_zero])
    (fun h => absurd (Finset.mem_univ _) h), ind_true rfl, mul_one, lit_645, lit_1e9]
  have hc := (count_gt (P := fun i x => Reach (adj g ⟨k.val / 8, by omega⟩ ⟨k.val % 8, by omega⟩) i x
      ∧ Reach (adj g ⟨k.val / 8, by omega⟩ ⟨k.val % 8, by omega⟩) x i)
    fun i => ⟨Relation.ReflTransGen.refl, Relation.ReflTransGen.refl⟩).trans (cycle_iff (adj_irrefl hg _ _)).symm
  unfold penalty
  by_cases h : ∃ i, Relation.TransGen (adj g ⟨k.val / 8, by omega⟩ ⟨k.val % 8, by omega⟩) i i
  · rw [if_pos h, if_pos (hc.2 h)]
  · rw [if_neg h, if_neg (fun h' => h (hc.1 h'))]

/-! ## The three tables -/

theorem out1_at {x0 : Vec Ideal S6x64x64 .f32} {g : Fin 6 → Fin 64 → Fin 64 → Prop}
    (hx : ∀ a i j, x0 (ix3 a i j) = ind (g a i j)) (k : Fin 64) (l : Fin 4096) :
    out0_1 x0 (ix2 k l) = ind (adj g ⟨k.val / 8, by omega⟩ ⟨k.val % 8, by omega⟩
      ⟨l.val / 64, by omega⟩ ⟨l.val % 64, by omega⟩) := by
  rw [out0_1_eq, View.canon_unit_zero (by funext a; fin_cases a <;> rfl)]
  have e : k0_pay2 (stack x0) (ix2 k l) = stack x0 (ix3 k ⟨l.val / 64, by omega⟩ ⟨l.val % 64, by omega⟩) := by
    pointwise [k0_pay2]
  rw [e, stack_at hx]

theorem out2_at {x0 : Vec Ideal S6x64x64 .f32} {g : Fin 6 → Fin 64 → Fin 64 → Prop}
    (hx : ∀ a i j, x0 (ix3 a i j) = ind (g a i j)) (k : Fin 64) (l : Fin 4096) :
    out0_2 x0 (ix2 k l) = ind (Reach (adj g ⟨k.val / 8, by omega⟩ ⟨k.val % 8, by omega⟩)
      ⟨l.val / 64, by omega⟩ ⟨l.val % 64, by omega⟩) := by
  unfold out0_2
  rw [View.canon_unit_zero (by funext a; fin_cases a <;> rfl), ← closed_at hx]
  pointwise [k0_pay3]

theorem out3_at {x0 : Vec Ideal S6x64x64 .f32} {g : Fin 6 → Fin 64 → Fin 64 → Prop}
    (hx : ∀ a i j, x0 (ix3 a i j) = ind (g a i j)) (hg : ∀ a i, ¬ g a i i) (r : Fin 8) (k : Fin 64) :
    out0_3 x0 (ix2 r k) = penalty (adj g ⟨k.val / 8, by omega⟩ ⟨k.val % 8, by omega⟩) := by
  unfold out0_3
  rw [View.canon_unit_zero (by funext a; fin_cases a <;> rfl)]
  exact pen_at hx hg r k

end Cert.Tables

end
-- ==== Proof.KRow.lean ====
module

public import proofs.«01_k».proof.Proof.KTables

/-!
# One row of the second kernel

A row of a block holds eight votes for each of three stages and sixty-four heights. Given the three
tables, the second kernel's row is the repair and the last column of the row, for the choice that comes
first among those of least score.
-/

@[expose] public section

set_option maxRecDepth 16384

noncomputable section

namespace Cert.Row

open Cert.KernelIdeal Cert.KernelIdeal.Gen Cert.Order Cert.Tables Idealize.ShloMosaic

/-! ## Words and literals -/

/-- The integer division by eight as the program spells it. -/
theorem floor_word (x : Fin 64) :
    Scalar.select (IntOp.andi
      (IntOp.cmpi .ne (IntOp.subi (BitVec.setWidth 32 (IntOp.cmpi .sgt (BitVec.ofNat 32 x.val) 0#32))
        (BitVec.setWidth 32 (IntOp.cmpi .slt (BitVec.ofNat 32 x.val) 0#32)))
        (Scalar.subi (Scalar.extui (Scalar.cmpi .sgt 8#32 0#32)) (Scalar.extui (Scalar.cmpi .slt 8#32 0#32))))
      (IntOp.cmpi .ne (IntOp.remsi .vector (BitVec.ofNat 32 x.val) 8#32) 0#32))
      (IntOp.subi (IntOp.divsi .vector (BitVec.ofNat 32 x.val) 8#32) 1#32)
      (IntOp.divsi .vector (BitVec.ofNat 32 x.val) 8#32) = BitVec.ofNat 32 (x.val / 8) := by
  revert x
  decide

theorem select_eq {α : Type} (u v : BitVec 32) (a b : α) :
    Scalar.select (IntOp.cmpi .eq u v) a b = if u = v then a else b := by
  unfold IntOp.cmpi Scalar.select
  by_cases h : u = v
  · subst h; simp
  · have hb : (u == v) = false := by simpa using h
    show (if BitVec.ofBool (u == v) = 1#1 then a else b) = _
    rw [hb, if_neg h, if_neg (by decide)]

theorem ofNat_eq_iff {a b : ℕ} (ha : a < 2 ^ 32) (hb : b < 2 ^ 32) :
    BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

theorem lit_bot : Ideal.ofBits .f32 0xFF800000#32 = (⊥ : EReal) := by
  simp [Ideal.ofBits, Ideal.ieee]

theorem lit_top : Ideal.ofBits .f32 0x7F800000#32 = (⊤ : EReal) := by
  simp [Ideal.ofBits, Ideal.ieee]

theorem pos_inf : (Named.named κ "pos_inf" 0x7F61B1E6#32 : Ideal .f32) = (⊤ : EReal) :=
  IdealRules.named_const.ideal_named_scalar _ _ _ _ rfl

theorem neg_inf : (Named.named κ "neg_inf" 0xF149F2CA#32 : Ideal .f32) = (⊥ : EReal) :=
  IdealRules.named_const.ideal_named_scalar _ _ _ _ rfl

/-! ## Flattened sums -/

theorem viol_flat (y : Fin 64 → EReal) (e : Fin 64 → Fin 64 → Prop) :
    ∑ l : Fin 4096, max (y ⟨l.val % 64, by omega⟩ - y ⟨l.val / 64, by omega⟩) 0
      * ind (e ⟨l.val / 64, by omega⟩ ⟨l.val % 64, by omega⟩) = viol y e :=
  sum_pairs fun i j => max (y j - y i) 0 * ind (e i j)

theorem pos_max_sub (a b : EReal) : 0 < max (a - b) 0 ↔ b < a := by
  rw [lt_max_iff, EReal.sub_pos]
  exact ⟨fun h => h.resolve_right (lt_irrefl _), Or.inl⟩

theorem sat_flat (y : Fin 64 → EReal) (e : Fin 64 → Fin 64 → Prop) :
    ∑ l : Fin 4096, ind (0 < max (y ⟨l.val % 64, by omega⟩ - y ⟨l.val / 64, by omega⟩) 0)
      * ind (e ⟨l.val / 64, by omega⟩ ⟨l.val % 64, by omega⟩) = 0 ↔ Sat y e := by
  simp only [ind_mul, pos_max_sub]
  rw [sum_ind_eq_zero]
  constructor
  · intro h i j hij
    have := h ⟨64 * i.val + j.val, by omega⟩
    have e1 : (⟨(64 * i.val + j.val) / 64, by omega⟩ : Fin 64) = i := Fin.ext (by simp only; omega)
    have e2 : (⟨(64 * i.val + j.val) % 64, by omega⟩ : Fin 64) = j := Fin.ext (by simp only; omega)
    simp only [e1, e2] at this
    exact not_lt.1 fun hlt => this ⟨hlt, hij⟩
  · rintro h l ⟨hlt, hl⟩
    exact absurd (h _ _ hl) (not_le.2 hlt)

/-! ## The tables a block reads -/

/-- The three tables hold what the first kernel leaves in them. -/
structure Tabs (g : Fin 6 → Fin 64 → Fin 64 → Prop) (x2 x3 : Vec Ideal S64x4096 .f32) (x4 : Vec Ideal S8x64 .f32) : Prop where
  graph : ∀ (k : Fin 64) (l : Fin 4096), x2 (ix2 k l) = ind (adj g ⟨k.val / 8, by omega⟩ ⟨k.val % 8, by omega⟩
    ⟨l.val / 64, by omega⟩ ⟨l.val % 64, by omega⟩)
  reach : ∀ (k : Fin 64) (l : Fin 4096), x3 (ix2 k l) = ind (Reach (adj g ⟨k.val / 8, by omega⟩ ⟨k.val % 8, by omega⟩)
    ⟨l.val / 64, by omega⟩ ⟨l.val % 64, by omega⟩)
  pen : ∀ (r : Fin 8) (k : Fin 64), x4 (ix2 r k) = penalty (adj g ⟨k.val / 8, by omega⟩ ⟨k.val % 8, by omega⟩)

/-- The vote sums of row `r`. -/
def votes (x0 : Vec Ideal S128x24 .f32) (r : Fin 128) (p : Fin 3) : EReal :=
  ∑ l : Fin 8, x0 (ix2 r ⟨8 * p.val + l.val, by omega⟩)

/-- The heights of row `r`. -/
def heights (x1 : Vec Ideal S128x64 .f32) (r : Fin 128) (j : Fin 64) : EReal := x1 (ix2 r j)

/-! ## The pattern -/

theorem pay5_at (x0 : Vec Ideal S128x24 .f32) (r : Fin 128) :
    k1_pay5 x0 (ix2 r 0) = BitVec.ofNat 32 (patt (votes x0 r)).val := by
  pointwise [k1_pay5]
  have e0 : (∑ x : Fin 8, x0 (ix2 r ⟨x.val, by omega⟩)) = votes x0 r 0 := by
    refine Finset.sum_congr rfl fun x _ => congrArg (fun q => x0 (ix2 r q)) (Fin.ext ?_)
    show x.val = 8 * 0 + x.val
    omega
  have e1 : (∑ x : Fin 8, x0 (ix2 r ⟨8 + x.val, by omega⟩)) = votes x0 r 1 := by
    refine Finset.sum_congr rfl fun x _ => congrArg (fun q => x0 (ix2 r q)) (Fin.ext ?_)
    show 8 + x.val = 8 * 1 + x.val
    omega
  have e2 : (∑ x : Fin 8, x0 (ix2 r ⟨16 + x.val, by omega⟩)) = votes x0 r 2 := by
    refine Finset.sum_congr rfl fun x _ => congrArg (fun q => x0 (ix2 r q)) (Fin.ext ?_)
    show 16 + x.val = 8 * 2 + x.val
    omega
  rw [e0, e1, e2]
  unfold patt
  by_cases h0 : 0 < votes x0 r 0 <;> by_cases h1 : 0 < votes x0 r 1 <;> by_cases h2 : 0 < votes x0 r 2 <;>
    simp only [h0, h1, h2, decide_true, decide_false, if_true, if_false] <;> decide

/-! ## The choice -/

theorem pay7_at (y : Vec Ideal S128x64 .f32) (r : Fin 128) (l : Fin 4096) :
    k1_pay7 y (k1_pay6 y) (ix2 r l)
      = max (heights y r ⟨l.val % 64, by omega⟩ - heights y r ⟨l.val / 64, by omega⟩) 0 := by
  unfold heights
  pointwise [k1_pay7, k1_pay6]

/-- The score of table row `k`, or `+∞` where the row is of another pattern. -/
def masked (y : Fin 64 → EReal) (g : Fin 6 → Fin 64 → Fin 64 → Prop) (m : Fin 8) (k : Fin 64) : EReal :=
  if k.val / 8 = m.val then score y (adj g ⟨k.val / 8, by omega⟩ ⟨k.val % 8, by omega⟩) else ⊤

theorem pay8_at {g : Fin 6 → Fin 64 → Fin 64 → Prop} {x2 x3 : Vec Ideal S64x4096 .f32} {x4 : Vec Ideal S8x64 .f32}
    (h : Tabs g x2 x3 x4) (y : Vec Ideal S128x64 .f32) (w : IVec S128x1 32) (r : Fin 128) (m : Fin 8)
    (hw : w (ix2 r 0) = BitVec.ofNat 32 m.val) {c : Fin 8} (hc : Best (fun c => score (heights y r) (adj g m c)) c)
    (hy : ∀ j, heights y r j ≠ ⊤ ∧ heights y r j ≠ ⊥) :
    k1_pay8 y (k1_pay2 x2) (k1_pay4 x4) w (k1_pay6 y) (ix2 r 0) = BitVec.ofNat 32 (8 * m.val + c.val) := by
  pointwise [k1_pay8, k1_pay4, k1_pay2]
  simp only [floor_word, hw, select_eq, pay7_at, h.graph, h.pen, lit_top]
  have hS : ∀ x : Fin 64, (if BitVec.ofNat 32 (x.val / 8) = BitVec.ofNat 32 m.val then
      ∑ l : Fin 4096, max (heights y r ⟨l.val % 64, by omega⟩ - heights y r ⟨l.val / 64, by omega⟩) 0
        * ind (adj g ⟨x.val / 8, by omega⟩ ⟨x.val % 8, by omega⟩ ⟨l.val / 64, by omega⟩ ⟨l.val % 64, by omega⟩)
        + penalty (adj g ⟨x.val / 8, by omega⟩ ⟨x.val % 8, by omega⟩)
      else (Named.named κ "pos_inf" 0x7F61B1E6#32 : Ideal .f32)) = masked (heights y r) g m x := by
    intro x
    rw [viol_flat, pos_inf]
    exact if_congr (ofNat_eq_iff (by omega) (by omega)) rfl rfl
  simp only [hS]
  refine first_min (n := 64) (N := 64) le_rfl (by norm_num) (c := ⟨8 * m.val + c.val, by omega⟩)
    (best_part hc (fun d => score_lt_top hy _) fun k => ?_)
  unfold masked
  by_cases hk : k.val / 8 = m.val
  · rw [if_pos hk, dif_pos hk]
    have : (⟨k.val / 8, by omega⟩ : Fin 8) = m := Fin.ext hk
    rw [this]
  · rw [if_neg hk, dif_neg hk]

/-! ## The repair -/

section Repair

variable {g : Fin 6 → Fin 64 → Fin 64 → Prop} {x2 x3 : Vec Ideal S64x4096 .f32} {x4 : Vec Ideal S8x64 .f32}

/-- One table row kept by comparing its number. -/
theorem sum_pick (k : Fin 64) (f : Fin 64 → EReal) :
    ∑ x : Fin 64, FloatOps.sitofp (F := Ideal) .f32
      (BitVec.setWidth 32 (IntOp.cmpi .eq (BitVec.ofNat 32 x.val) (BitVec.ofNat 32 k.val))) * f x = f k := by
  simp only [sitofp_eq]
  rw [Finset.sum_eq_single k (fun j _ hj => by rw [ind_false hj, zero_mul])
    (fun h => absurd (Finset.mem_univ _) h), ind_true rfl, one_mul]

theorem pay9_at (h : Tabs g x2 x3 x4) (y : Vec Ideal S128x64 .f32) (w : IVec S128x1 32) (r : Fin 128) (m c : Fin 8)
    (hw : w (ix2 r 0) = BitVec.ofNat 32 (8 * m.val + c.val)) (j : Fin 64) :
    k1_pay9 y (k1_pay2 x2) (k1_pay3 x3) (k1_pay7 y (k1_pay6 y)) (iota .tc S128x64 32 [1] iota_S128x64_d1_w32) w (ix2 r j)
      = repaired (heights y r) (adj g m c) j := by
  obtain ⟨k, hk⟩ : ∃ k : Fin 64, k.val = 8 * m.val + c.val := ⟨⟨8 * m.val + c.val, by omega⟩, rfl⟩
  have hw' : w (ix2 r 0) = BitVec.ofNat 32 k.val := by rw [hw, hk]
  have hkm : (⟨k.val / 8, by omega⟩ : Fin 8) = m := Fin.ext (by simp only; omega)
  have hkc : (⟨k.val % 8, by omega⟩ : Fin 8) = c := Fin.ext (by simp only; omega)
  pointwise [k1_pay9, k1_pay2, k1_pay3]
  simp only [hw', select_eq, sum_onehot, sum_pick, sitofp_bit, pay7_at, h.graph, h.reach, lit_bot, neg_inf,
    hkm, hkc]
  have hf := sat_flat (heights y r) (adj g m c)
  unfold repaired
  by_cases hs : Sat (heights y r) (adj g m c)
  · rw [if_pos (hf.2 hs), if_pos hs]; rfl
  · rw [if_neg (fun h => hs (hf.1 h)), if_neg hs]
    unfold raised
    refine Finset.fold_congr fun x _ => ?_
    have e1 : (⟨(j.val * 64 + x.val) / 64, by omega⟩ : Fin 64) = j := Fin.ext (by simp only; omega)
    have e2 : (⟨(j.val * 64 + x.val) % 64, by omega⟩ : Fin 64) = x := Fin.ext (by simp only; omega)
    simp only [e1, e2]
    by_cases hr : Reach (adj g m c) j x
    · rw [if_pos hr, if_pos (ind_pos.2 hr)]; rfl
    · rw [if_neg hr, if_neg (fun h => hr (ind_pos.1 h))]

theorem pay10_at (h : Tabs g x2 x3 x4) (y : Vec Ideal S128x64 .f32) (w : IVec S128x1 32) (r : Fin 128) (m c : Fin 8)
    (hw : w (ix2 r 0) = BitVec.ofNat 32 (8 * m.val + c.val)) :
    k1_pay10 y (k1_pay2 x2) (k1_pay3 x3) (k1_pay7 y (k1_pay6 y)) (iota .tc S128x64 32 [1] iota_S128x64_d1_w32) w (ix2 r 0)
      = viol (repaired (heights y r) (adj g m c)) (adj g m c) := by
  obtain ⟨k, hk⟩ : ∃ k : Fin 64, k.val = 8 * m.val + c.val := ⟨⟨8 * m.val + c.val, by omega⟩, rfl⟩
  have hw' : w (ix2 r 0) = BitVec.ofNat 32 k.val := by rw [hw, hk]
  have hkm : (⟨k.val / 8, by omega⟩ : Fin 8) = m := Fin.ext (by simp only; omega)
  have hkc : (⟨k.val % 8, by omega⟩ : Fin 8) = c := Fin.ext (by simp only; omega)
  have hp := pay9_at h y w r m c hw
  have h2 : ∀ k l, k1_pay2 (F := Ideal) x2 (ix2 k l) = x2 (ix2 k l) := fun k l => by pointwise [k1_pay2]
  pointwise [k1_pay10]
  simp only [hw', select_eq, sum_onehot, hp, h2, h.graph, hkm, hkc]
  exact viol_flat _ _

theorem pay11_at (h : Tabs g x2 x3 x4) (y : Vec Ideal S128x64 .f32) (w : IVec S128x1 32) (r : Fin 128) (m c : Fin 8)
    (hw : w (ix2 r 0) = BitVec.ofNat 32 (8 * m.val + c.val)) :
    k1_pay11 y (k1_pay2 x2) (k1_pay3 x3) (k1_pay7 y (k1_pay6 y)) (iota .tc S128x64 32 [1] iota_S128x64_d1_w32) w (ix1 r)
      = Finset.univ.fold max ⊥ (repaired (heights y r) (adj g m c)) := by
  have hp := pay9_at h y w r m c hw
  pointwise [k1_pay11]
  simp only [hp, lit_bot]

theorem pay1_at (a : FVec Ideal S128x1 .f32) (b : FVec Ideal S128 .f32) (r : Fin 128) (j : Fin 64) :
    k1_pay1 a b (ix2 r j) = if 0 < a (ix2 r 0) then b (ix1 r) + a (ix2 r 0) else (⊥ : EReal) := by
  pointwise [k1_pay1]
  rw [lit_bot]

end Repair

/-! ## The row -/

/-- What the second kernel leaves in row `r` of its two blocks. -/
theorem row {g : Fin 6 → Fin 64 → Fin 64 → Prop} {x2 x3 : Vec Ideal S64x4096 .f32} {x4 : Vec Ideal S8x64 .f32}
    (h : Tabs g x2 x3 x4) (x0 : Vec Ideal S128x24 .f32) (x1 : Vec Ideal S128x64 .f32) (r : Fin 128)
    (hy : ∀ j, heights x1 r j ≠ ⊤ ∧ heights x1 r j ≠ ⊥) {c : Fin 8}
    (hc : Best (fun c => score (heights x1 r) (adj g (patt (votes x0 r)) c)) c) :
    (∀ j, out1_5 x0 x1 x2 x3 x4 (ix2 r j) = repaired (heights x1 r) (adj g (patt (votes x0 r)) c) j)
    ∧ ∀ j, out1_6 x0 x1 x2 x3 x4 (ix2 r j) = bottom (heights x1 r) (adj g (patt (votes x0 r)) c) := by
  have hw : k1_pay17 x0 x1 x2 x3 x4 (ix2 r 0) = BitVec.ofNat 32 (8 * (patt (votes x0 r)).val + c.val) := by
    unfold k1_pay17 k1_pay12 k1_pay14
    rw [View.ld_unit_zero (by funext a; fin_cases a <;> rfl), View.ld_unit_zero (by funext a; fin_cases a <;> rfl),
      View.ld_unit_zero (by funext a; fin_cases a <;> rfl), View.ld_unit_zero (by funext a; fin_cases a <;> rfl)]
    exact pay8_at h x1 _ r _ (pay5_at x0 r) hc hy
  have e2 : k1_pay12 x0 x1 x2 x3 x4 = k1_pay2 x2 := by
    unfold k1_pay12; rw [View.ld_unit_zero (by funext a; fin_cases a <;> rfl)]
  have e3 : k1_pay13 x0 x1 x2 x3 x4 = k1_pay3 x3 := by
    unfold k1_pay13; rw [View.ld_unit_zero (by funext a; fin_cases a <;> rfl)]
  have e7 : k1_pay16 x0 x1 x2 x3 x4 = k1_pay7 x1 (k1_pay6 x1) := by
    unfold k1_pay16 k1_pay14; rw [View.ld_unit_zero (by funext a; fin_cases a <;> rfl)]
  constructor
  · intro j
    unfold out1_5
    rw [View.canon_unit_zero (by funext a; fin_cases a <;> rfl), View.ld_unit_zero (by funext a; fin_cases a <;> rfl),
      e2, e3, e7]
    exact pay9_at h x1 _ r _ c hw j
  · intro j
    unfold out1_6
    rw [View.canon_unit_zero (by funext a; fin_cases a <;> rfl), View.ld_unit_zero (by funext a; fin_cases a <;> rfl),
      e2, e3, e7, pay1_at]
    unfold k1_pay15
    rw [pay10_at h x1 _ r _ c hw, pay11_at h x1 _ r _ c hw]
    rfl

end Cert.Row

end
-- ==== Proof.KArrays.lean ====
module

public import proofs.«01_k».proof.Proof.KRow
public import proofs.«01_k».proof.Proof.Gen.KernelIdeal.Frame
public import Idealize.ShloMosaic.Lib.Pipeline.Value
public import Idealize.ShloMosaic.Lib.Pipeline.ValueKit

/-!
# The arrays the two kernels leave

The first kernel has one grid point, and each of its blocks is a whole array. The second kernel's point `t`
reads and writes rows `128 t` to `128 t + 127`, and reads the three tables whole.
-/

@[expose] public section

set_option maxRecDepth 16384

noncomputable section

namespace Cert.Arrays

open Cert.KernelIdeal Cert.KernelIdeal.Gen Cert.Order Cert.Tables Cert.Row
open Idealize.ShloMosaic Idealize.ShloMosaic.TcCoe Idealize.SL.Sem

variable (V : (c : Dev nD) → (b : Ref sig .tc) → Buf (Elt Ideal) ((c : Thread nD τ).loc b)) (c : Dev nD)

/-! ## The first kernel -/

theorem at0_0 : ∀ t : Fin cfg0.N, win0_0.index t = ![0, 0, 0] := (by decide +kernel : ∀ t : Fin grid0.N, _)
theorem at0_1 : ∀ t : Fin cfg0.N, win0_1.index t = ![0, 0] := (by decide +kernel : ∀ t : Fin grid0.N, _)
theorem at0_2 : ∀ t : Fin cfg0.N, win0_2.index t = ![0, 0] := (by decide +kernel : ∀ t : Fin grid0.N, _)
theorem at0_3 : ∀ t : Fin cfg0.N, win0_3.index t = ![0, 0] := (by decide +kernel : ∀ t : Fin grid0.N, _)

/-- The first kernel's input block is its input array. -/
theorem graphs_block (t : Fin cfg0.N) : iblk0 V c 0 t = V c main_v0 := by
  funext j
  show V c main_v0 (((cfg0.win 0).blk t).view.emb j) = V c main_v0 j
  congr 1
  blk_ext [at0_0]

theorem table1 : (dat0 V c).arrAt 1 cfg0.N = out0_1 (V c main_v0) := by
  refine (dat0 V c).arrAt_eq_of_covers 1 _ (by decide +kernel) fun t _ y => ?_
  have hk : ((cfg0.win 1).blk t).view.emb y = y := by blk_ext [at0_1]
  rw [hk]
  blk_simp
  rw [after0_1, graphs_block]

theorem table2 : (dat0 V c).arrAt 2 cfg0.N = out0_2 (V c main_v0) := by
  refine (dat0 V c).arrAt_eq_of_covers 2 _ (by decide +kernel) fun t _ y => ?_
  have hk : ((cfg0.win 2).blk t).view.emb y = y := by blk_ext [at0_2]
  rw [hk]
  blk_simp
  rw [after0_2, graphs_block]

theorem table3 : (dat0 V c).arrAt 3 cfg0.N = out0_3 (V c main_v0) := by
  refine (dat0 V c).arrAt_eq_of_covers 3 _ (by decide +kernel) fun t _ y => ?_
  have hk : ((cfg0.win 3).blk t).view.emb y = y := by blk_ext [at0_3]
  rw [hk]
  blk_simp
  rw [after0_3, graphs_block]

/-! ## The second kernel -/

theorem at1_0 : ∀ t : Fin cfg1.N, win1_0.index t = ![t.val, 0] := (by decide +kernel : ∀ t : Fin grid1.N, _)
theorem at1_1 : ∀ t : Fin cfg1.N, win1_1.index t = ![t.val, 0] := (by decide +kernel : ∀ t : Fin grid1.N, _)
theorem at1_2 : ∀ t : Fin cfg1.N, win1_2.index t = ![0, 0] := (by decide +kernel : ∀ t : Fin grid1.N, _)
theorem at1_3 : ∀ t : Fin cfg1.N, win1_3.index t = ![0, 0] := (by decide +kernel : ∀ t : Fin grid1.N, _)
theorem at1_4 : ∀ t : Fin cfg1.N, win1_4.index t = ![0, 0] := (by decide +kernel : ∀ t : Fin grid1.N, _)
theorem at1_5 : ∀ t : Fin cfg1.N, win1_5.index t = ![t.val, 0] := (by decide +kernel : ∀ t : Fin grid1.N, _)
theorem at1_6 : ∀ t : Fin cfg1.N, win1_6.index t = ![t.val, 0] := (by decide +kernel : ∀ t : Fin grid1.N, _)

theorem points : cfg1.N = 32 := by decide +kernel

/-- The array's row under row `r` of point `t`'s block. -/
def line (t : Fin cfg1.N) (r : Fin 128) : Fin 4096 :=
  ⟨128 * t.val + r.val, by have := t.isLt; have := points; omega⟩

theorem votes_block (t : Fin cfg1.N) (r : Fin 128) (k : Fin 24) :
    iblk1 V c 0 t (ix2 r k) = V c main_v2 (ix2 (line t r) k) := by
  show V c main_v2 (((cfg1.win 0).blk t).view.emb (ix2 r k)) = _
  congr 1
  blk_ext [at1_0, line]

theorem heights_block (t : Fin cfg1.N) (r : Fin 128) (k : Fin 64) :
    iblk1 V c 1 t (ix2 r k) = V c main_arg1 (ix2 (line t r) k) := by
  show V c main_arg1 (((cfg1.win 1).blk t).view.emb (ix2 r k)) = _
  congr 1
  blk_ext [at1_1, line]

theorem table1_block (t : Fin cfg1.N) : iblk1 V c 2 t = V c main_v1_0 := by
  funext j
  show V c main_v1_0 (((cfg1.win 2).blk t).view.emb j) = V c main_v1_0 j
  congr 1
  blk_ext [at1_2]

theorem table2_block (t : Fin cfg1.N) : iblk1 V c 3 t = V c main_v1_1 := by
  funext j
  show V c main_v1_1 (((cfg1.win 3).blk t).view.emb j) = V c main_v1_1 j
  congr 1
  blk_ext [at1_3]

theorem table3_block (t : Fin cfg1.N) : iblk1 V c 4 t = V c main_v1_2 := by
  funext j
  show V c main_v1_2 (((cfg1.win 4).blk t).view.emb j) = V c main_v1_2 j
  congr 1
  blk_ext [at1_4]

/-- An array of 4096 rows of 64 by its entries. -/
def whole (f : Fin 4096 → Fin 64 → EReal) : Vec Ideal S4096x64 .f32 := fun i => f (i 0) (i 1)

theorem place5 (t : Fin cfg1.N) (r : Fin 128) (k : Fin 64) :
    ((cfg1.win 5).blk t).view.emb (ix2 r k) = ix2 (line t r) k := by
  blk_ext [at1_5, line]

theorem place6 (t : Fin cfg1.N) (r : Fin 128) (k : Fin 64) :
    ((cfg1.win 6).blk t).view.emb (ix2 r k) = ix2 (line t r) k := by
  blk_ext [at1_6, line]

theorem array5 (f : Fin 4096 → Fin 64 → EReal)
    (h : ∀ t r k, out1_5 (iblk1 V c 0 t) (iblk1 V c 1 t) (iblk1 V c 2 t) (iblk1 V c 3 t) (iblk1 V c 4 t) (ix2 r k)
      = f (line t r) k) : (dat1 V c).arrAt 5 cfg1.N = whole f := by
  have hc : (cfg1.win 5).Covers := by decide +kernel
  refine (dat1 V c).arrAt_eq_of_covers 5 (whole f) hc fun t _ y => ?_
  obtain ⟨r, k, rfl⟩ : ∃ (r : Fin 128) (k : Fin 64), y = (ix2 r k : S128x64.Idx) :=
    ⟨y 0, y 1, funext fun a => by fin_cases a <;> rfl⟩
  rw [place5]
  blk_simp
  rw [after1_5]
  exact h t r k

theorem array6 (f : Fin 4096 → Fin 64 → EReal)
    (h : ∀ t r k, out1_6 (iblk1 V c 0 t) (iblk1 V c 1 t) (iblk1 V c 2 t) (iblk1 V c 3 t) (iblk1 V c 4 t) (ix2 r k)
      = f (line t r) k) : (dat1 V c).arrAt 6 cfg1.N = whole f := by
  have hc : (cfg1.win 6).Covers := by decide +kernel
  refine (dat1 V c).arrAt_eq_of_covers 6 (whole f) hc fun t _ y => ?_
  obtain ⟨r, k, rfl⟩ : ∃ (r : Fin 128) (k : Fin 64), y = (ix2 r k : S128x64.Idx) :=
    ⟨y 0, y 1, funext fun a => by fin_cases a <;> rfl⟩
  rw [place6]
  blk_simp
  rw [after1_6]
  exact h t r k

/-- The two result arrays, given the choice of every row. -/
theorem results {g : Fin 6 → Fin 64 → Fin 64 → Prop}
    (h : Tabs g (V c main_v1_0) (V c main_v1_1) (V c main_v1_2)) {x : Fin 4096 → Fin 24 → EReal}
    (hx : ∀ R k, V c main_v2 (ix2 R k) = x R k)
    {y : Fin 4096 → Fin 64 → EReal} (hy : ∀ R j, V c main_arg1 (ix2 R j) = y R j)
    (hf : ∀ R j, y R j ≠ ⊤ ∧ y R j ≠ ⊥) {s : Fin 4096 → Fin 3 → EReal}
    (hs : ∀ R p, s R p = ∑ l : Fin 8, x R ⟨8 * p.val + l.val, by omega⟩) (e : Fin 4096 → Fin 8)
    (he : ∀ R, Best (fun d => score (y R) (adj g (patt (s R)) d)) (e R)) :
    (dat1 V c).arrAt 5 cfg1.N = whole (fun R j => repaired (y R) (adj g (patt (s R)) (e R)) j)
    ∧ (dat1 V c).arrAt 6 cfg1.N = whole (fun R _ => bottom (y R) (adj g (patt (s R)) (e R))) := by
  have key (t : Fin cfg1.N) (r : Fin 128) :
      (∀ j, out1_5 (iblk1 V c 0 t) (iblk1 V c 1 t) (iblk1 V c 2 t) (iblk1 V c 3 t) (iblk1 V c 4 t) (ix2 r j)
        = repaired (y (line t r)) (adj g (patt (s (line t r))) (e (line t r))) j)
      ∧ ∀ j, out1_6 (iblk1 V c 0 t) (iblk1 V c 1 t) (iblk1 V c 2 t) (iblk1 V c 3 t) (iblk1 V c 4 t) (ix2 r j)
        = bottom (y (line t r)) (adj g (patt (s (line t r))) (e (line t r))) := by
    have hv : votes (iblk1 V c 0 t) r = s (line t r) := by
      funext p
      rw [hs]
      unfold votes
      exact Finset.sum_congr rfl fun l _ => (votes_block V c t r _).trans (hx _ _)
    have hh : heights (iblk1 V c 1 t) r = y (line t r) := by
      funext j
      exact (heights_block V c t r j).trans (hy _ _)
    rw [table1_block, table2_block, table3_block]
    have := row h (iblk1 V c 0 t) (iblk1 V c 1 t) r (by rw [hh]; exact hf _) (c := e (line t r))
      (by rw [hh, hv]; exact he _)
    rw [hh, hv] at this
    exact this
  exact ⟨array5 V c _ fun t r k => (key t r).1 k, array6 V c _ fun t r k => (key t r).2 k⟩

end Cert.Arrays

end
-- ==== Proof.Answer.lean ====
module

public import proofs.«01_k».proof.Proof.Select

/-!
# The answer of one row

The choice of a row is the first combination of least score; the row's answer is the repaired heights and
then the last column.
-/

@[expose] public section

noncomputable section

namespace Cert.Order

/-- The first combination of least score. -/
def choice (g : Fin 6 → Fin 64 → Fin 64 → Prop) (m : Fin 8) (y : Fin 64 → EReal) : Fin 8 :=
  Classical.choose (exists_best (by decide) fun d : Fin 8 => score y (adj g m d))

theorem choice_best (g : Fin 6 → Fin 64 → Fin 64 → Prop) (m : Fin 8) (y : Fin 64 → EReal) :
    Best (fun d => score y (adj g m d)) (choice g m y) :=
  Classical.choose_spec (exists_best (by decide) fun d : Fin 8 => score y (adj g m d))

/-- The graph a row is repaired by. -/
def chosen (g : Fin 6 → Fin 64 → Fin 64 → Prop) (s : Fin 3 → EReal) (y : Fin 64 → EReal) : Fin 64 → Fin 64 → Prop :=
  adj g (patt s) (choice g (patt s) y)

/-- A row's answer. -/
def answer (g : Fin 6 → Fin 64 → Fin 64 → Prop) (s : Fin 3 → EReal) (y : Fin 64 → EReal) (J : Fin 65) : EReal :=
  if h : J.val < 64 then repaired y (chosen g s y) ⟨J.val, h⟩ else bottom y (chosen g s y)

end Cert.Order

end
-- ==== Proof.KRun.lean ====
module

public import proofs.«01_k».proof.Proof.KArrays
public import proofs.«01_k».proof.Proof.Answer
public import Idealize.ShloMosaic.Lib.StableHlo.Run

/-!
# The kernel's run

The host converts the graphs to floats, the first kernel makes the three tables, the host keeps the votes'
columns, the second kernel makes the repaired rows and their last column, and the host joins the two.
-/

@[expose] public section

set_option maxRecDepth 16384

noncomputable section

namespace Cert.KRun

open Cert.KernelIdeal Cert.KernelIdeal.Gen Cert.Order Cert.Tables Cert.Row Cert.Arrays
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-! ## The arrays along the run -/

theorem graphs_in : V1 m ρ c main_v0
    = (sitofp (F := Ideal) .f32 : (⟨S6x64x64, .i32⟩ : BufTy).Contents (Elt Ideal) →
      (⟨S6x64x64, .f32⟩ : BufTy).Contents (Elt Ideal))
      (m ((c : Thread nD τ).loc main_arg2)) := by
  show StableHlo.after hostOps0 (W0 m ρ c) main_v0 = _
  after_results

theorem tab1 : W2 m ρ c main_v1_0 = out0_1 (V1 m ρ c main_v0) :=
  (W2_arr m ρ c 1).trans (table1 (V1 m ρ) c)
theorem tab2 : W2 m ρ c main_v1_1 = out0_2 (V1 m ρ c main_v0) :=
  (W2_arr m ρ c 2).trans (table2 (V1 m ρ) c)
theorem tab3 : W2 m ρ c main_v1_2 = out0_3 (V1 m ρ c main_v0) :=
  (W2_arr m ρ c 3).trans (table3 (V1 m ρ) c)

theorem votes_in : V3 m ρ c main_v2
    = ((extractStridedSlice S4096x24 ![0, 0] · slices_S4096x128_S4096x24_0_0) :
        (⟨S4096x128, .f32⟩ : BufTy).Contents (Elt Ideal) → (⟨S4096x24, .f32⟩ : BufTy).Contents (Elt Ideal))
      (m ((c : Thread nD τ).loc main_arg0)) := by
  rw [← W2_args m ρ c main_arg0 (by decide)]
  show StableHlo.after hostOps1 (W2 m ρ c) main_v2 = _
  after_results

theorem heights_in : V3 m ρ c main_arg1 = m ((c : Thread nD τ).loc main_arg1) :=
  W3_args m ρ c main_arg1 (by decide)

theorem tab1_in : V3 m ρ c main_v1_0 = out0_1 (V1 m ρ c main_v0) :=
  (W3_of m ρ c main_v1_0 (by decide)).trans (tab1 m ρ c)
theorem tab2_in : V3 m ρ c main_v1_1 = out0_2 (V1 m ρ c main_v0) :=
  (W3_of m ρ c main_v1_1 (by decide)).trans (tab2 m ρ c)
theorem tab3_in : V3 m ρ c main_v1_2 = out0_3 (V1 m ρ c main_v0) :=
  (W3_of m ρ c main_v1_2 (by decide)).trans (tab3 m ρ c)

theorem rows_out : W4 m ρ c main_v3_0 = (dat1 (V3 m ρ) c).arrAt 5 cfg1.N := W4_arr m ρ c 5
theorem last_out : W4 m ρ c main_v3_1 = (dat1 (V3 m ρ) c).arrAt 6 cfg1.N := W4_arr m ρ c 6

theorem joined : W5 m ρ c main_v5
    = ((fun a b => concatenate S4096x65 1 [⟨S4096x64, a⟩, ⟨S4096x1, b⟩] concatenates_S4096x64_S4096x1_S4096x65_d1) :
        (⟨S4096x64, .f32⟩ : BufTy).Contents (Elt Ideal) → (⟨S4096x1, .f32⟩ : BufTy).Contents (Elt Ideal) →
          (⟨S4096x65, .f32⟩ : BufTy).Contents (Elt Ideal))
      (W4 m ρ c main_v3_0)
      (((extractStridedSlice S4096x1 ![0, 0] · slices_S4096x64_S4096x1_0_0) :
        (⟨S4096x64, .f32⟩ : BufTy).Contents (Elt Ideal) → (⟨S4096x1, .f32⟩ : BufTy).Contents (Elt Ideal))
        (W4 m ρ c main_v3_1)) := by
  show StableHlo.after hostOps2 (W4 m ρ c) main_v5 = _
  after_results

/-! ## The result -/

theorem join_at (a : Fin 4096 → Fin 64 → EReal) (b : Fin 4096 → EReal) (R : Fin 4096) (J : Fin 65) :
    concatenate S4096x65 1 [⟨S4096x64, whole a⟩,
      ⟨S4096x1, extractStridedSlice S4096x1 ![0, 0] (whole fun R _ => b R) slices_S4096x64_S4096x1_0_0⟩]
      concatenates_S4096x64_S4096x1_S4096x65_d1 (ix2 R J) = if h : J.val < 64 then a R ⟨J.val, h⟩ else b R := by
  pointwise []
  rfl

/-- The result array of the kernel holds every row's answer. -/
theorem value {g : Fin 6 → Fin 64 → Fin 64 → Prop} (hg : ∀ a i, ¬ g a i i)
    (h1 : ∀ a i j, g a i j → m ((c : Thread nD τ).loc main_arg2) (ix3 a i j) = 1#32)
    (h0 : ∀ a i j, ¬ g a i j → m ((c : Thread nD τ).loc main_arg2) (ix3 a i j) = 0#32)
    {x : Fin 4096 → Fin 128 → EReal} (hx : ∀ R k, m ((c : Thread nD τ).loc main_arg0) (ix2 R k) = x R k)
    {y : Fin 4096 → Fin 64 → EReal} (hy : ∀ R k, m ((c : Thread nD τ).loc main_arg1) (ix2 R k) = y R k)
    (hf : ∀ R j, y R j ≠ ⊤ ∧ y R j ≠ ⊥) (R : Fin 4096) (J : Fin 65) :
    W5 m ρ c main_v5 (ix2 R J) = answer g (fun p => ∑ l : Fin 8, x R ⟨8 * p.val + l.val, by omega⟩) (y R) J := by
  have hin : ∀ a i j, V1 m ρ c main_v0 (ix3 a i j) = ind (g a i j) := by
    intro a i j
    rw [graphs_in]
    show FloatOps.sitofp (F := Ideal) .f32 (m ((c : Thread nD τ).loc main_arg2) (ix3 a i j)) = _
    have hw (w : BitVec 32) : FloatOps.sitofp (F := Ideal) .f32 w = ((w.toInt : ℝ) : EReal) := rfl
    by_cases h : g a i j
    · rw [h1 a i j h, ind_true h, hw]; norm_num
    · rw [h0 a i j h, ind_false h, hw]; norm_num
  have ht : Tabs g (V3 m ρ c main_v1_0) (V3 m ρ c main_v1_1) (V3 m ρ c main_v1_2) := by
    rw [tab1_in, tab2_in, tab3_in]
    exact ⟨out1_at hin, out2_at hin, out3_at hin hg⟩
  have hv : ∀ R (k : Fin 24), V3 m ρ c main_v2 (ix2 R k) = x R ⟨k.val, by omega⟩ := by
    intro R k
    rw [votes_in, ← hx]
    pointwise []
  obtain ⟨h5, h6⟩ := results (V3 m ρ) c ht hv (y := y) (fun R j => (congrFun (heights_in m ρ c) _).trans (hy R j)) hf
    (s := fun R p => ∑ l : Fin 8, x R ⟨8 * p.val + l.val, by omega⟩) (fun _ _ => rfl) _ (fun R => choice_best _ _ _)
  rw [joined, rows_out, last_out, h5, h6]
  exact join_at _ _ R J

/-! ## The launch -/

set_option backward.isDefEq.respectTransparency.types false in
/-- Every run of the kernel ends with the result at the last boundary's contents and the arguments as launched. -/
theorem run : θ_run defs (onTc (τ := τ) (main (F := Ideal))) ⟨m, fun _ => 0, ρ⟩ (fun r => ∀ c : Dev nD,
      r.2.mem ((c.tc : Thread nD τ).loc main_v5) = W5 m ρ c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main
    (segs m ρ) (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) :
            sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ))
        ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c))
    (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KRun

end
-- ==== Proof.RGather.lean ====
module

public import proofs.«01_k».proof.Proof.Gen.ReferenceIdeal.Read
public import proofs.«01_k».proof.Proof.Select
public import Idealize.ShloMosaic.Lib.Pointwise

/-!
# The reference's indexed reads

Each `gather` of the reference reads its operand at positions that another array holds. Given the positions,
each reads one element.
-/

@[expose] public section

set_option maxRecDepth 16384

noncomputable section

namespace Cert.RGather

open Cert.ReferenceIdeal Cert.ReferenceIdeal.Gen Cert.Order Idealize.ShloMosaic

variable {α : Type}

/-- A position read from a word that holds `p`, clamped below `n`, is `p`. -/
theorem clamp {w : BitVec 32} {n p : ℕ} (h : w = BitVec.ofNat 32 p) (hp : p ≤ n) (hn : n < 2 ^ 31) :
    min w.toInt.toNat n + 0 + 0 = p := by
  rw [h, toInt_ofNat_small (k := p) (by omega)]
  omega

/-- The graphs of a combination. -/
theorem graphs (x : S6x64x64.Idx → α) (idx : IVec S8x3x1 32) (c : Fin 8) (p : Fin 3) (i j : Fin 64) (a : Fin 6)
    (h : idx (ix3 c p 0) = BitVec.ofNat 32 a.val) :
    Host.gather gather_S6x64x64_S8x3x1_S8x3x64x64_23_0_n_n_0_2_16464 x idx (ix4 c p i j) = x (ix3 a i j) := by
  unfold Host.gather
  congr 1
  funext b
  apply Fin.ext
  fin_cases b
  · refine Eq.trans ?_ (clamp h (n := 5) (Nat.le_of_lt_succ a.isLt) (by decide))
    refine congrArg (fun q => min (idx q).toInt.toNat 5 + 0 + 0) ?_
    funext b
    fin_cases b <;> rfl
  · show 0 + 0 + i.val = i.val
    omega
  · show 0 + 0 + j.val = j.val
    omega

/-- The diagonals of a stack of squares. -/
theorem diagonal (x : S64x64x64.Idx → α) (idx : IVec S64x2 32) (k i : Fin 64)
    (h0 : idx (ix2 i 0) = BitVec.ofNat 32 i.val) (h1 : idx (ix2 i 1) = BitVec.ofNat 32 i.val) :
    Host.gather gather_S64x64x64_S64x2_S64x64_0_12_n_n_12_1_6411 x idx (ix2 k i) = x (ix3 k i i) := by
  unfold Host.gather
  congr 1
  funext b
  apply Fin.ext
  fin_cases b
  · show 0 + 0 + k.val = k.val
    omega
  · refine Eq.trans ?_ (clamp h0 (n := 63) (Nat.le_of_lt_succ i.isLt) (by decide))
    refine congrArg (fun q => min (idx q).toInt.toNat 63 + 0 + 0) ?_
    funext b
    fin_cases b <;> rfl
  · refine Eq.trans ?_ (clamp h1 (n := 63) (Nat.le_of_lt_succ i.isLt) (by decide))
    refine congrArg (fun q => min (idx q).toInt.toNat 63 + 0 + 0) ?_
    funext b
    fin_cases b <;> rfl

/-- One row of the table of each batch row. -/
theorem rows (x : S4096x8x8.Idx → α) (idx : IVec S4096x2 32) (R : Fin 4096) (c : Fin 8) (a : Fin 4096) (b : Fin 8)
    (h0 : idx (ix2 R 0) = BitVec.ofNat 32 a.val) (h1 : idx (ix2 R 1) = BitVec.ofNat 32 b.val) :
    Host.gather gather_S4096x8x8_S4096x2_S4096x8_1_01_n_n_01_1_118 x idx (ix2 R c) = x (ix3 a b c) := by
  unfold Host.gather
  congr 1
  funext d
  apply Fin.ext
  fin_cases d
  · refine Eq.trans ?_ (clamp h0 (n := 4095) (Nat.le_of_lt_succ a.isLt) (by decide))
    refine congrArg (fun q => min (idx q).toInt.toNat 4095 + 0 + 0) ?_
    funext b
    fin_cases b <;> rfl
  · refine Eq.trans ?_ (clamp h1 (n := 7) (Nat.le_of_lt_succ b.isLt) (by decide))
    refine congrArg (fun q => min (idx q).toInt.toNat 7 + 0 + 0) ?_
    funext b
    fin_cases b <;> rfl
  · show 0 + 0 + c.val = c.val
    omega

/-- One row of a table. -/
theorem row (x : S8x8.Idx → α) (idx : IVec S4096x1 32) (R : Fin 4096) (c : Fin 8) (a : Fin 8)
    (h0 : idx (ix2 R 0) = BitVec.ofNat 32 a.val) :
    Host.gather gather_S8x8_S4096x1_S4096x8_1_0_n_n_0_1_18 x idx (ix2 R c) = x (ix2 a c) := by
  unfold Host.gather
  congr 1
  funext d
  apply Fin.ext
  fin_cases d
  · refine Eq.trans ?_ (clamp h0 (n := 7) (Nat.le_of_lt_succ a.isLt) (by decide))
    refine congrArg (fun q => min (idx q).toInt.toNat 7 + 0 + 0) ?_
    funext b
    fin_cases b <;> rfl
  · show 0 + 0 + c.val = c.val
    omega

/-- One relation of a table of relations. -/
theorem relation (x : S8x8x64x64.Idx → α) (idx : IVec S4096x2 32) (R : Fin 4096) (i j : Fin 64) (a b : Fin 8)
    (h0 : idx (ix2 R 0) = BitVec.ofNat 32 a.val) (h1 : idx (ix2 R 1) = BitVec.ofNat 32 b.val) :
    Host.gather gather_S8x8x64x64_S4096x2_S4096x64x64_12_01_n_n_01_1_116464 x idx (ix3 R i j) = x (ix4 a b i j) := by
  unfold Host.gather
  congr 1
  funext d
  apply Fin.ext
  fin_cases d
  · refine Eq.trans ?_ (clamp h0 (n := 7) (Nat.le_of_lt_succ a.isLt) (by decide))
    refine congrArg (fun q => min (idx q).toInt.toNat 7 + 0 + 0) ?_
    funext b
    fin_cases b <;> rfl
  · refine Eq.trans ?_ (clamp h1 (n := 7) (Nat.le_of_lt_succ b.isLt) (by decide))
    refine congrArg (fun q => min (idx q).toInt.toNat 7 + 0 + 0) ?_
    funext b
    fin_cases b <;> rfl
  · show 0 + 0 + i.val = i.val
    omega
  · show 0 + 0 + j.val = j.val
    omega

end Cert.RGather

end
-- ==== Proof.RTables.lean ====
module

public import proofs.«01_k».proof.Proof.RGather
public import proofs.«01_k».proof.Proof.KTables

/-!
# The reference's tables

The reference combines the six graphs for every pattern `m` and choice `c`, closes each union under
composition by seven rounds, and looks for a cycle on the diagonal.
-/

@[expose] public section

set_option maxRecDepth 16384

noncomputable section

namespace Cert.RTables

open Cert.ReferenceIdeal Cert.ReferenceIdeal.Gen Cert.ReferenceIdeal.Read Cert.Order Idealize.ShloMosaic

/-- The graph argument. -/
abbrev Graphs := (⟨S6x64x64, .i32⟩ : BufTy).Contents (Elt Ideal)

/-- A bit read as a number. -/
theorem uitofp_bit (p : Prop) [Decidable p] :
    FloatOps.uitofp (F := Ideal) .f32 (BitVec.ofBool (decide p)) = ind p := by
  show (((BitVec.ofBool (decide p)).toNat : ℝ) : EReal) = ind p
  by_cases h : p
  · rw [decide_eq_true h, ind_true h]; simp
  · rw [decide_eq_false h, ind_false h]; simp

/-! ## The union of the chosen graphs -/

theorem sel_word (c : Fin 8) (p : Fin 3) :
    val_main_v22 (F := Ideal) (ix3 c p 0) = BitVec.ofNat 32 (sel c p).val := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_c, val_main_c_0, val_main_c_1, val_main_c_2, val_main_c_3]
  revert c p
  decide

theorem graph_word (x2 : Graphs) (c : Fin 8) (p : Fin 3) (i j : Fin 64) :
    val_main_v23 (F := Ideal) x2 (ix4 c p i j) = x2 (ix3 (sel c p) i j) :=
  RGather.graphs x2 _ c p i j (sel c p) (sel_word c p)

theorem bit_word (m : Fin 8) (p : Fin 3) :
    IntOp.andi (IntOp.shrsi ArithUnit.host (BitVec.ofNat 32 m.val) (BitVec.ofNat 32 p.val)) 1#32
      = if m.val.testBit p.val then 1#32 else 0#32 := by
  revert m p
  decide

open Classical in
/-- The greatest of three words that are each one or zero. -/
theorem fold_maxsi (f : Fin 3 → BitVec 32) (P : Fin 3 → Prop) (h : ∀ p, f p = if P p then 1#32 else 0#32) :
    Finset.univ.fold IntOp.maxsi 2147483648#32 f = if ∃ p, P p then 1#32 else 0#32 := by
  have e : Finset.univ.fold IntOp.maxsi 2147483648#32 f
      = IntOp.maxsi (f 0) (IntOp.maxsi (f 1) (IntOp.maxsi (f 2) 2147483648#32)) := by
    rw [Fin.univ_succ, Finset.fold_cons, Finset.fold_map, Fin.univ_succ, Finset.fold_cons, Finset.fold_map,
      Fin.univ_succ, Finset.fold_cons]
    rfl
  have ex : (∃ p, P p) ↔ P 0 ∨ P 1 ∨ P 2 := by
    rw [Fin.exists_fin_succ, Fin.exists_fin_succ, Fin.exists_fin_succ]
    simp [Fin.exists_fin_zero]
  rw [e, h, h, h]
  simp only [ex]
  by_cases h0 : P 0 <;> by_cases h1 : P 1 <;> by_cases h2 : P 2 <;> simp only [h0, h1, h2, if_true, if_false, or_true, or_false, true_or, false_or] <;> decide

variable {x2 : Graphs} {g : Fin 6 → Fin 64 → Fin 64 → Prop}

open Classical in
/-- The union, as a word. -/
theorem union_word (h1 : ∀ a i j, g a i j → x2 (ix3 a i j) = 1#32) (h0 : ∀ a i j, ¬ g a i j → x2 (ix3 a i j) = 0#32)
    (m c : Fin 8) (i j : Fin 64) :
    val_main_v38 (F := Ideal) x2 (ix4 m c i j) = if adj g m c i j then 1#32 else 0#32 := by
  pointwise [val_main_v38, val_main_v37, val_main_v36, val_main_v35, val_main_v34, val_main_v33, val_main_v32, val_main_v31, val_main_v30, val_main_v29, val_main_v28, val_main_v27, val_main_v26, val_main_v25, val_main_v24, val_main_c_4, val_main_c_5]
  refine (fold_maxsi _ (fun p => m.val.testBit p.val = true ∧ g (sel c p) i j) fun p => ?_).trans
    (by unfold adj; congr)
  rw [bit_word, graph_word]
  by_cases hb : m.val.testBit p.val = true <;> by_cases hg : g (sel c p) i j
  · rw [h1 _ _ _ hg, if_pos hb, if_pos ⟨hb, hg⟩]; decide
  · rw [h0 _ _ _ hg, if_pos hb, if_neg fun h => hg h.2]; decide
  · rw [h1 _ _ _ hg, if_neg hb, if_neg fun h => hb h.1]; decide
  · rw [h0 _ _ _ hg, if_neg hb, if_neg fun h => hb h.1]; decide

open Classical in
/-- A word that is one or zero, read as a number. -/
theorem sitofp_word (p : Prop) :
    FloatOps.sitofp (F := Ideal) .f32 (if p then 1#32 else 0#32) = ind p := by
  by_cases h : p
  · rw [if_pos h, ind_true h]
    show ((((1#32 : BitVec 32).toInt : ℝ)) : EReal) = 1
    have : (1#32 : BitVec 32).toInt = 1 := by decide
    rw [this]; simp
  · rw [if_neg h, ind_false h]
    show ((((0#32 : BitVec 32).toInt : ℝ)) : EReal) = 0
    have : (0#32 : BitVec 32).toInt = 0 := by decide
    rw [this]; simp

/-- The union of slab `k`. -/
def rel (g : Fin 6 → Fin 64 → Fin 64 → Prop) (k : Fin 64) : Fin 64 → Fin 64 → Prop :=
  adj g ⟨k.val / 8, by omega⟩ ⟨k.val % 8, by omega⟩

theorem union_at (h1 : ∀ a i j, g a i j → x2 (ix3 a i j) = 1#32) (h0 : ∀ a i j, ¬ g a i j → x2 (ix3 a i j) = 0#32)
    (k i j : Fin 64) : val_main_v40 (F := Ideal) x2 (ix3 k i j) = ind (closeTrans (rel g k) 0 i j) := by
  have e : val_main_v40 (F := Ideal) x2 (ix3 k i j)
      = FloatOps.sitofp (F := Ideal) .f32 (val_main_v38 (F := Ideal) x2 (ix4 ⟨k.val / 8, by omega⟩ ⟨k.val % 8, by omega⟩ i j)) := by
    pointwise [val_main_v40, val_main_v39]
  rw [e, union_word h1 h0, sitofp_word]
  rfl

/-! ## Closing -/

/-- One round adds the square. -/
theorem round {v w : FVec Ideal S64x64x64 .f32} {E : Fin 64 → Fin 64 → Fin 64 → Prop} {s : ℕ}
    (hv : ∀ k i j, v (ix3 k i j) = ind (closeTrans (E k) s i j))
    (hw : ∀ k i j, w (ix3 k i j) = FloatOps.uitofp (F := Ideal) .f32
      (BitVec.ofBool (decide (0 < v (ix3 k i j) + ∑ x : Fin 64, v (ix3 k i x) * v (ix3 k x j))))) (k i j : Fin 64) :
    w (ix3 k i j) = ind (closeTrans (E k) (s + 1) i j) := by
  rw [hw, uitofp_bit]
  refine ind_congr ?_
  simp only [hv, ind_mul]
  show _ ↔ closeTrans (E k) s i j ∨ ∃ x, closeTrans (E k) s i x ∧ closeTrans (E k) s x j
  have hs := sum_ind_pos fun x => closeTrans (E k) s i x ∧ closeTrans (E k) s x j
  constructor
  · intro h
    by_contra hn
    rw [not_or] at hn
    rw [ind_false hn.1, zero_add, hs] at h
    exact hn.2 h
  · rintro (h | h)
    · exact lt_of_lt_of_le (ind_pos.2 h) (le_add_of_nonneg_right (Finset.sum_nonneg fun x _ => ind_nonneg _))
    · exact lt_of_lt_of_le (hs.2 h) (le_add_of_nonneg_left (ind_nonneg _))

theorem step_45 (x2 : Graphs) (k i j : Fin 64) : val_main_v45 (F := Ideal) x2 (ix3 k i j)
    = FloatOps.uitofp (F := Ideal) .f32 (BitVec.ofBool (decide (0 < val_main_v40 (F := Ideal) x2 (ix3 k i j)
      + ∑ x : Fin 64, val_main_v40 (F := Ideal) x2 (ix3 k i x) * val_main_v40 (F := Ideal) x2 (ix3 k x j)))) := by
  pointwise [val_main_v45, val_main_v44, val_main_v43, val_main_v42, val_main_v41, val_main_cst]

theorem step_50 (x2 : Graphs) (k i j : Fin 64) : val_main_v50 (F := Ideal) x2 (ix3 k i j)
    = FloatOps.uitofp (F := Ideal) .f32 (BitVec.ofBool (decide (0 < val_main_v45 (F := Ideal) x2 (ix3 k i j)
      + ∑ x : Fin 64, val_main_v45 (F := Ideal) x2 (ix3 k i x) * val_main_v45 (F := Ideal) x2 (ix3 k x j)))) := by
  pointwise [val_main_v50, val_main_v49, val_main_v48, val_main_v47, val_main_v46, val_main_cst_6]

theorem step_55 (x2 : Graphs) (k i j : Fin 64) : val_main_v55 (F := Ideal) x2 (ix3 k i j)
    = FloatOps.uitofp (F := Ideal) .f32 (BitVec.ofBool (decide (0 < val_main_v50 (F := Ideal) x2 (ix3 k i j)
      + ∑ x : Fin 64, val_main_v50 (F := Ideal) x2 (ix3 k i x) * val_main_v50 (F := Ideal) x2 (ix3 k x j)))) := by
  pointwise [val_main_v55, val_main_v54, val_main_v53, val_main_v52, val_main_v51, val_main_cst_7]

theorem step_60 (x2 : Graphs) (k i j : Fin 64) : val_main_v60 (F := Ideal) x2 (ix3 k i j)
    = FloatOps.uitofp (F := Ideal) .f32 (BitVec.ofBool (decide (0 < val_main_v55 (F := Ideal) x2 (ix3 k i j)
      + ∑ x : Fin 64, val_main_v55 (F := Ideal) x2 (ix3 k i x) * val_main_v55 (F := Ideal) x2 (ix3 k x j)))) := by
  pointwise [val_main_v60, val_main_v59, val_main_v58, val_main_v57, val_main_v56, val_main_cst_8]

theorem step_65 (x2 : Graphs) (k i j : Fin 64) : val_main_v65 (F := Ideal) x2 (ix3 k i j)
    = FloatOps.uitofp (F := Ideal) .f32 (BitVec.ofBool (decide (0 < val_main_v60 (F := Ideal) x2 (ix3 k i j)
      + ∑ x : Fin 64, val_main_v60 (F := Ideal) x2 (ix3 k i x) * val_main_v60 (F := Ideal) x2 (ix3 k x j)))) := by
  pointwise [val_main_v65, val_main_v64, val_main_v63, val_main_v62, val_main_v61, val_main_cst_9]

theorem step_70 (x2 : Graphs) (k i j : Fin 64) : val_main_v70 (F := Ideal) x2 (ix3 k i j)
    = FloatOps.uitofp (F := Ideal) .f32 (BitVec.ofBool (decide (0 < val_main_v65 (F := Ideal) x2 (ix3 k i j)
      + ∑ x : Fin 64, val_main_v65 (F := Ideal) x2 (ix3 k i x) * val_main_v65 (F := Ideal) x2 (ix3 k x j)))) := by
  pointwise [val_main_v70, val_main_v69, val_main_v68, val_main_v67, val_main_v66, val_main_cst_10]

theorem step_75 (x2 : Graphs) (k i j : Fin 64) : val_main_v75 (F := Ideal) x2 (ix3 k i j)
    = FloatOps.uitofp (F := Ideal) .f32 (BitVec.ofBool (decide (0 < val_main_v70 (F := Ideal) x2 (ix3 k i j)
      + ∑ x : Fin 64, val_main_v70 (F := Ideal) x2 (ix3 k i x) * val_main_v70 (F := Ideal) x2 (ix3 k x j)))) := by
  pointwise [val_main_v75, val_main_v74, val_main_v73, val_main_v72, val_main_v71, val_main_cst_11]

/-- After seven rounds slab `k` holds the paths of at least one edge. -/
theorem closed_at (h1 : ∀ a i j, g a i j → x2 (ix3 a i j) = 1#32) (h0 : ∀ a i j, ¬ g a i j → x2 (ix3 a i j) = 0#32)
    (k i j : Fin 64) : val_main_v75 (F := Ideal) x2 (ix3 k i j) = ind (Relation.TransGen (rel g k) i j) := by
  have h := round (round (round (round (round (round (round (union_at h1 h0) (step_45 x2)) (step_50 x2)) (step_55 x2))
    (step_60 x2)) (step_65 x2)) (step_70 x2)) (step_75 x2) k i j
  rw [h]
  exact ind_congr (closeTrans_iff (by norm_num))

end Cert.RTables

end
-- ==== Proof.RReach.lean ====
module

public import proofs.«01_k».proof.Proof.RTables

/-!
# The reference's reachability and cycles

From the closed relations the reference reads the cycles off the diagonal, and adds the equality.
-/

@[expose] public section

set_option maxRecDepth 16384

noncomputable section

namespace Cert.RTables

open Cert.ReferenceIdeal Cert.ReferenceIdeal.Gen Cert.ReferenceIdeal.Read Cert.Order Idealize.ShloMosaic

/-- A position that is not negative is not counted from the end. -/
theorem wrap {k : ℕ} (hk : k < 2 ^ 31) (w : BitVec 32) :
    Scalar.select (IntOp.cmpi .slt (BitVec.ofNat 32 k) 0#32) (IntOp.addi (BitVec.ofNat 32 k) w) (BitVec.ofNat 32 k)
      = BitVec.ofNat 32 k := by
  have h : IntOp.cmpi .slt (BitVec.ofNat 32 k) 0#32 = 0#1 := by
    show BitVec.ofBool ((BitVec.ofNat 32 k).slt 0#32) = 0#1
    have : (BitVec.ofNat 32 k).slt 0#32 = false := by
      rw [BitVec.slt_eq_decide, toInt_ofNat_small hk, decide_eq_false]
      simp
    rw [this]; rfl
  rw [h]
  rfl

open Classical in
/-- Bits joined by "or". -/
theorem fold_or {n : ℕ} (P : Fin n → Prop) [∀ x, Decidable (P x)] :
    Finset.univ.fold IntOp.ori 0#1 (fun x => BitVec.ofBool (decide (P x))) = BitVec.ofBool (decide (∃ x, P x)) := by
  have h := Finset.fold_hom (op := or) (op' := (IntOp.ori : BitVec 1 → BitVec 1 → BitVec 1)) (m := BitVec.ofBool)
    (b := false) (s := (Finset.univ : Finset (Fin n))) (f := fun x => decide (P x)) (by decide)
  refine h.trans (congrArg BitVec.ofBool ?_)
  have hs : ∀ s : Finset (Fin n), s.fold or false (fun x => decide (P x)) = decide (∃ x ∈ s, P x) := by
    intro s
    induction s using Finset.induction_on with
    | empty => simp
    | insert a s ha ih =>
      rw [Finset.fold_insert ha, ih]
      by_cases h : P a <;> simp [h]
  rw [hs]
  simp

open Classical in
/-- Bits joined by "and". -/
theorem fold_and {ι : Type} [Fintype ι] (P : ι → Prop) [∀ x, Decidable (P x)] :
    Finset.univ.fold IntOp.andi 1#1 (fun x => BitVec.ofBool (decide (P x))) = BitVec.ofBool (decide (∀ x, P x)) := by
  have h := Finset.fold_hom (op := and) (op' := (IntOp.andi : BitVec 1 → BitVec 1 → BitVec 1)) (m := BitVec.ofBool)
    (b := true) (s := (Finset.univ : Finset ι)) (f := fun x => decide (P x)) (by decide)
  refine h.trans (congrArg BitVec.ofBool ?_)
  have hs : ∀ s : Finset ι, s.fold and true (fun x => decide (P x)) = decide (∀ x ∈ s, P x) := by
    intro s
    induction s using Finset.induction_on with
    | empty => simp
    | insert a s ha ih =>
      rw [Finset.fold_insert ha, ih]
      by_cases h : P a <;> simp [h]
  rw [hs]
  simp

/-! ## Cycles -/

theorem place_0 (i : Fin 64) : val_main_call0_v14 (F := Ideal) (ix2 i 0) = BitVec.ofNat 32 i.val := by
  have e : val_main_call0_v14 (F := Ideal) (ix2 i 0) = val_main_call0_v12 (F := Ideal) (ix2 i 0) := by
    pointwise [val_main_call0_v14]
  rw [e]
  pointwise [val_main_call0_v12, val_main_call0_v6, val_main_call0_v5, val_main_call0_v4, val_main_call0_c_0, val_main_call0_v3, val_main_call0_v2, val_main_call0_c, val_main_call0_v0]
  exact wrap (by omega) _

theorem place_1 (i : Fin 64) : val_main_call0_v14 (F := Ideal) (ix2 i 1) = BitVec.ofNat 32 i.val := by
  have e : val_main_call0_v14 (F := Ideal) (ix2 i 1) = val_main_call0_v13 (F := Ideal) (ix2 i 0) := by
    pointwise [val_main_call0_v14]
  rw [e]
  pointwise [val_main_call0_v13, val_main_call0_v11, val_main_call0_v10, val_main_call0_v9, val_main_call0_c_2, val_main_call0_v8, val_main_call0_v7, val_main_call0_c_1, val_main_call0_v1]
  exact wrap (by omega) _

theorem diagonal (x2 : Graphs) (k i : Fin 64) :
    val_main_v76 (F := Ideal) x2 (ix2 k i) = val_main_v75 (F := Ideal) x2 (ix3 k i i) :=
  RGather.diagonal (val_main_v75 (F := Ideal) x2) _ k i (place_0 i) (place_1 i)

theorem rel_at (g : Fin 6 → Fin 64 → Fin 64 → Prop) (m c : Fin 8) (h : m.val * 8 + c.val < 64) :
    rel g ⟨m.val * 8 + c.val, h⟩ = adj g m c := by
  have e1 : (⟨(m.val * 8 + c.val) / 8, by omega⟩ : Fin 8) = m := Fin.ext (by simp only; omega)
  have e2 : (⟨(m.val * 8 + c.val) % 8, by omega⟩ : Fin 8) = c := Fin.ext (by simp only; omega)
  unfold rel
  simp only [e1, e2]

variable {x2 : Graphs} {g : Fin 6 → Fin 64 → Fin 64 → Prop}

open Classical in
theorem acyclic_at (h1 : ∀ a i j, g a i j → x2 (ix3 a i j) = 1#32) (h0 : ∀ a i j, ¬ g a i j → x2 (ix3 a i j) = 0#32)
    (m c : Fin 8) : val_main_v81 (F := Ideal) x2 (ix2 m c)
      = BitVec.ofBool (decide (¬ ∃ i, Relation.TransGen (adj g m c) i i)) := by
  have e : val_main_v81 (F := Ideal) x2 (ix2 m c) = ~~~ val_main_v79 (F := Ideal) x2 (ix1 ⟨m.val * 8 + c.val, by omega⟩) := by
    pointwise [val_main_v81, val_main_v80]
  have e' : ∀ k : Fin 64, val_main_v79 (F := Ideal) x2 (ix1 k) = Finset.univ.fold IntOp.ori 0#1 (fun x : Fin 64 =>
      BitVec.ofBool (decide (0 < val_main_v76 (F := Ideal) x2 (ix2 k x)))) := by
    intro k
    pointwise [val_main_v79, val_main_v78, val_main_v77, val_main_c_13, val_main_cst_12]
  rw [e, e', fold_or]
  have hc : (∃ i : Fin 64, 0 < val_main_v76 (F := Ideal) x2 (ix2 ⟨m.val * 8 + c.val, by omega⟩ i))
      ↔ ∃ i, Relation.TransGen (adj g m c) i i := by
    refine exists_congr fun i => ?_
    rw [diagonal, closed_at h1 h0, ind_pos, rel_at]
  by_cases h : ∃ i, Relation.TransGen (adj g m c) i i
  · rw [decide_eq_true (hc.2 h), decide_eq_false (not_not.2 h)]; decide
  · rw [decide_eq_false (fun h' => h (hc.1 h')), decide_eq_true h]; decide

/-! ## Reachability -/

theorem eq_bit (i j : Fin 64) : FloatOps.uitofp (F := Ideal) .f32
    (IntOp.cmpi .eq (IntOp.addi (BitVec.ofNat 32 i.val) 0#32) (BitVec.ofNat 32 j.val)) = ind (i = j) := by
  have : IntOp.cmpi .eq (IntOp.addi (BitVec.ofNat 32 i.val) 0#32) (BitVec.ofNat 32 j.val) = BitVec.ofBool (decide (i = j)) := by
    unfold IntOp.cmpi IntOp.addi
    congr 1
    rw [BitVec.add_zero]
    by_cases h : i = j
    · subst h; simp
    · simp [h, Tables.ofNat_inj]
  rw [this, uitofp_bit]

theorem reach_at (h1 : ∀ a i j, g a i j → x2 (ix3 a i j) = 1#32) (h0 : ∀ a i j, ¬ g a i j → x2 (ix3 a i j) = 0#32)
    (m c : Fin 8) (i j : Fin 64) :
    val_main_v91 (F := Ideal) x2 (ix4 m c i j) = ind (Reach (adj g m c) i j) := by
  have e : val_main_v91 (F := Ideal) x2 (ix4 m c i j)
      = max (val_main_v75 (F := Ideal) x2 (ix3 ⟨m.val * 8 + c.val, by omega⟩ i j))
        (FloatOps.uitofp (F := Ideal) .f32
          (IntOp.cmpi .eq (IntOp.addi (BitVec.ofNat 32 i.val) 0#32) (BitVec.ofNat 32 j.val))) := by
    pointwise [val_main_v91, val_main_v90, val_main_v89, val_main_v88, val_main_v87, val_main_v86, val_main_v85, val_main_v84, val_main_v83, val_main_v82, val_main_c_14]
  rw [e, closed_at h1 h0, rel_at, eq_bit, ind_max]
  refine ind_congr ?_
  refine Iff.trans ?_ Relation.reflTransGen_iff_eq_or_transGen.symm
  exact ⟨fun h => h.elim Or.inr fun h => Or.inl h.symm, fun h => h.elim (fun h => Or.inr h.symm) Or.inl⟩

end Cert.RTables

end
-- ==== Proof.RRow.lean ====
module

public import proofs.«01_k».proof.Proof.RReach
public import proofs.«01_k».proof.Proof.KRow
public import proofs.«01_k».proof.Proof.Answer

/-!
# The choice the reference makes for a row

The signs of the three vote means make the pattern. Among the eight choices of that pattern the first
with the least score is taken.
-/

@[expose] public section

set_option maxRecDepth 16384

noncomputable section

namespace Cert.RRow

open Cert.ReferenceIdeal Cert.ReferenceIdeal.Gen Cert.ReferenceIdeal.Read Cert.Order Cert.RTables Idealize.ShloMosaic

/-- The vote argument. -/
abbrev Votes := (⟨S4096x128, .f32⟩ : BufTy).Contents (Elt Ideal)
/-- The height argument. -/
abbrev Heights := (⟨S4096x64, .f32⟩ : BufTy).Contents (Elt Ideal)

/-- The vote sums of row `R`. -/
def votes (x0 : Votes) (R : Fin 4096) (p : Fin 3) : EReal :=
  ∑ l : Fin 8, x0 (ix2 R ⟨8 * p.val + l.val, by omega⟩)

/-- The heights of row `R`. -/
def heights (x1 : Heights) (R : Fin 4096) (j : Fin 64) : EReal := x1 (ix2 R j)

/-! ## The pattern -/

theorem lit_8 : Ideal.ofBits .f32 1090519040#32 = ((8 : ℝ) : EReal) := by
  simp [Ideal.ofBits, Ideal.ieee, -EReal.coe_mul]; norm_num

/-- A mean is positive where its sum is. -/
theorem mean_pos (s : EReal) : 0 < Ideal.div s (Ideal.ofBits .f32 1090519040#32) ↔ 0 < s := by
  rw [lit_8]
  have h8 : ((8 : ℝ) : EReal) ≠ 0 := by
    rw [← EReal.coe_zero]
    exact fun h => by
      have := EReal.coe_eq_coe_iff.1 h
      norm_num at this
  unfold Ideal.div
  rw [if_neg h8, ← EReal.coe_inv]
  have hp : (0 : EReal) < (((8 : ℝ)⁻¹ : ℝ) : EReal) := EReal.coe_pos.2 (by norm_num)
  constructor
  · intro h
    by_contra hn
    exact absurd h (not_lt.2 (EReal.mul_nonpos_iff.2 (Or.inr ⟨not_lt.1 hn, hp.le⟩)))
  · exact fun h => EReal.mul_pos h hp

theorem sign_0 (x0 : Votes) (R : Fin 4096) :
    val_main_v97 (F := Ideal) x0 (ix1 R) = BitVec.ofBool (decide (0 < votes x0 R 0)) := by
  pointwise [val_main_v97, val_main_v96, val_main_v95, val_main_v94, val_main_v93, val_main_v92, val_main_cst_15, val_main_cst_16, val_main_cst_17]
  simp only [mean_pos]
  have e : (∑ x : Fin 8, x0 (ix2 R ⟨x.val, by omega⟩)) = votes x0 R 0 :=
    Finset.sum_congr rfl fun x _ => congrArg (fun q => x0 (ix2 R q)) (Fin.ext (by
      show x.val = 8 * 0 + x.val
      omega))
  rw [e]

theorem sign_1 (x0 : Votes) (R : Fin 4096) :
    val_main_v103 (F := Ideal) x0 (ix1 R) = BitVec.ofBool (decide (0 < votes x0 R 1)) := by
  pointwise [val_main_v103, val_main_v102, val_main_v101, val_main_v100, val_main_v99, val_main_v98, val_main_cst_18, val_main_cst_19, val_main_cst_20]
  simp only [mean_pos]
  have e : (∑ x : Fin 8, x0 (ix2 R ⟨8 + x.val, by omega⟩)) = votes x0 R 1 :=
    Finset.sum_congr rfl fun x _ => congrArg (fun q => x0 (ix2 R q)) (Fin.ext (by
      show 8 + x.val = 8 * 1 + x.val
      omega))
  rw [e]

theorem sign_2 (x0 : Votes) (R : Fin 4096) :
    val_main_v109 (F := Ideal) x0 (ix1 R) = BitVec.ofBool (decide (0 < votes x0 R 2)) := by
  pointwise [val_main_v109, val_main_v108, val_main_v107, val_main_v106, val_main_v105, val_main_v104, val_main_cst_21, val_main_cst_22, val_main_cst_23]
  simp only [mean_pos]
  have e : (∑ x : Fin 8, x0 (ix2 R ⟨16 + x.val, by omega⟩)) = votes x0 R 2 :=
    Finset.sum_congr rfl fun x _ => congrArg (fun q => x0 (ix2 R q)) (Fin.ext (by
      show 16 + x.val = 8 * 2 + x.val
      omega))
  rw [e]

theorem fold_addi (f : Fin 3 → BitVec 32) :
    Finset.univ.fold IntOp.addi 0#32 f = IntOp.addi (f 0) (IntOp.addi (f 1) (IntOp.addi (f 2) 0#32)) := by
  rw [Fin.univ_succ, Finset.fold_cons, Finset.fold_map, Fin.univ_succ, Finset.fold_cons, Finset.fold_map,
    Fin.univ_succ, Finset.fold_cons]
  rfl

theorem pattern_word (x0 : Votes) (R : Fin 4096) :
    val_main_v121 (F := Ideal) x0 (ix1 R) = BitVec.ofNat 32 (patt (votes x0 R)).val := by
  pointwise [val_main_v121, val_main_v120, val_main_v119, val_main_v118, val_main_v117, val_main_v116, val_main_v115, val_main_v114, val_main_v113, val_main_v112, val_main_v111, val_main_v110, val_main_c_24, val_main_c_25]
  rw [fold_addi]
  have e0 := sign_0 x0 R
  have e1 := sign_1 x0 R
  have e2 := sign_2 x0 R
  simp only [Fin.val_zero, Fin.val_one, Fin.val_two, Nat.lt_irrefl, Nat.zero_lt_one, Nat.reduceLT, Nat.reduceSub, Nat.sub_self, ↓reduceDIte]
  rw [e0, e1, e2]
  unfold patt
  by_cases h0 : 0 < votes x0 R 0 <;> by_cases h1 : 0 < votes x0 R 1 <;> by_cases h2 : 0 < votes x0 R 2 <;>
    simp only [h0, h1, h2, decide_true, decide_false, if_true, if_false] <;> decide

/-! ## The scores -/

variable {x2 : Graphs} {g : Fin 6 → Fin 64 → Fin 64 → Prop}

theorem viol_at (h1 : ∀ a i j, g a i j → x2 (ix3 a i j) = 1#32) (h0 : ∀ a i j, ¬ g a i j → x2 (ix3 a i j) = 0#32)
    (x1 : Heights) (R : Fin 4096) (m c : Fin 8) :
    val_main_v129 (F := Ideal) x1 x2 (ix3 R m c) = viol (heights x1 R) (adj g m c) := by
  have e : val_main_v129 (F := Ideal) x1 x2 (ix3 R m c)
      = ∑ i : Fin 64, ∑ j : Fin 64, max (x1 (ix2 R j) - x1 (ix2 R i)) 0
        * FloatOps.sitofp (F := Ideal) .f32 (val_main_v38 (F := Ideal) x2 (ix4 m c i j)) := by
    pointwise [val_main_v129, val_main_v128, val_main_v127, val_main_v126, val_main_v125, val_main_v124, val_main_v123, val_main_v122, val_main_call1_v0, val_main_call1_cst]
  rw [e]
  refine Finset.sum_congr rfl fun i _ => Finset.sum_congr rfl fun j _ => ?_
  rw [union_word h1 h0, sitofp_word]
  rfl

theorem place_row (x0 : Votes) (R : Fin 4096) :
    val_main_v143 (F := Ideal) x0 (ix2 R 0) = BitVec.ofNat 32 R.val := by
  pointwise [val_main_v143, val_main_v141, val_main_v135, val_main_v134, val_main_v133, val_main_v132, val_main_v131, val_main_v130, val_main_c_26, val_main_c_27]
  exact wrap (by omega) _

theorem place_pattern (x0 : Votes) (R : Fin 4096) :
    val_main_v143 (F := Ideal) x0 (ix2 R 1) = BitVec.ofNat 32 (patt (votes x0 R)).val := by
  pointwise [val_main_v143, val_main_v142, val_main_v140, val_main_v139, val_main_v138, val_main_v137, val_main_v136, val_main_c_28, val_main_c_29]
  rw [pattern_word]
  exact wrap (by omega) _

theorem place_pattern' (x0 : Votes) (R : Fin 4096) :
    val_main_v150 (F := Ideal) x0 (ix2 R 0) = BitVec.ofNat 32 (patt (votes x0 R)).val := by
  pointwise [val_main_v150, val_main_v149, val_main_v148, val_main_v147, val_main_v146, val_main_v145, val_main_c_30, val_main_c_31]
  rw [pattern_word]
  exact wrap (by omega) _

theorem score_at (h1 : ∀ a i j, g a i j → x2 (ix3 a i j) = 1#32) (h0 : ∀ a i j, ¬ g a i j → x2 (ix3 a i j) = 0#32)
    (x0 : Votes) (x1 : Heights) (R : Fin 4096) (c : Fin 8) :
    val_main_v157 (F := Ideal) x0 x1 x2 (ix2 R c)
      = score (heights x1 R) (adj g (patt (votes x0 R)) c) := by
  have e : val_main_v157 (F := Ideal) x0 x1 x2 (ix2 R c)
      = val_main_v144 (F := Ideal) x0 x1 x2 (ix2 R c) + Ideal.ofBits .f32 1315859240#32
        * (1 - FloatOps.uitofp (F := Ideal) .f32 (val_main_v151 (F := Ideal) x0 x2 (ix2 R c))) := by
    pointwise [val_main_v157, val_main_v156, val_main_v155, val_main_v154, val_main_v153, val_main_v152, val_main_cst_32, val_main_cst_33]
  have ev : val_main_v144 (F := Ideal) x0 x1 x2 (ix2 R c)
      = val_main_v129 (F := Ideal) x1 x2 (ix3 R (patt (votes x0 R)) c) :=
    RGather.rows (val_main_v129 (F := Ideal) x1 x2) _ R c R _ (place_row x0 R) (place_pattern x0 R)
  have ea : val_main_v151 (F := Ideal) x0 x2 (ix2 R c) = val_main_v81 (F := Ideal) x2 (ix2 (patt (votes x0 R)) c) :=
    RGather.row (val_main_v81 (F := Ideal) x2) _ R c _ (place_pattern' x0 R)
  rw [e, ev, ea, viol_at h1 h0, acyclic_at h1 h0, uitofp_bit, Tables.lit_1e9]
  unfold score penalty
  refine congrArg (viol (heights x1 R) (adj g (patt (votes x0 R)) c) + ·) ?_
  by_cases h : ∃ i, Relation.TransGen (adj g (patt (votes x0 R)) c) i i
  · rw [if_pos h, ind_false (not_not.2 h), sub_zero, mul_one]
  · rw [if_neg h, ind_true h]
    have : (1 : EReal) - 1 = 0 := by rw [← EReal.coe_one, ← EReal.coe_sub, sub_self, EReal.coe_zero]
    rw [this, mul_zero]

theorem choice_word (h1 : ∀ a i j, g a i j → x2 (ix3 a i j) = 1#32) (h0 : ∀ a i j, ¬ g a i j → x2 (ix3 a i j) = 0#32)
    (x0 : Votes) (x1 : Heights) (R : Fin 4096) :
    val_main_v165 (F := Ideal) x0 x1 x2 (ix1 R)
      = BitVec.ofNat 32 (choice g (patt (votes x0 R)) (heights x1 R)).val := by
  pointwise [val_main_v165, val_main_v164, val_main_v163, val_main_v162, val_main_v161, val_main_v160, val_main_v159, val_main_v158, val_main_c_36, val_main_c_35, val_main_cst_34, val_main_call2_v0, val_main_call2_v1, val_main_call2_v2]
  simp only [score_at h1 h0]
  have hb := first_min (n := 8) (N := 8) le_rfl (by decide) (choice_best g (patt (votes x0 R)) (heights x1 R))
  rw [← hb, Row.lit_top]
  refine Finset.fold_congr fun x _ => ?_
  split_ifs <;> first | rfl | contradiction

end Cert.RRow

end
-- ==== Proof.RBroken.lean ====
module

public import proofs.«01_k».proof.Proof.RRow

/-!
# What a pair breaks

How far each pair of points breaks a relation, read off the reference's arrays.
-/

@[expose] public section

set_option maxRecDepth 16384

noncomputable section

namespace Cert.RRow

open Cert.ReferenceIdeal Cert.ReferenceIdeal.Gen Cert.ReferenceIdeal.Read Cert.Order Cert.RTables Idealize.ShloMosaic

/-- How far each pair breaks the relation `v`, given the heights `w`. -/
def broken (w : FVec Ideal S4096x64 .f32) (v : FVec Ideal S4096x64x64 .f32) : FVec Ideal S4096x64x64 .f32 :=
  maximumf
      (addf
        (broadcastInDim S4096x64x64 ![0, 1, 2] bcast_S4096x64x1_S4096x64x64_0_1_2
          (Host.negf (broadcastInDim S4096x64x1 ![0, 1] bcast_S4096x64_S4096x64x1_0_1 w)))
        (select (cmpf CmpFPredicate.ogt v (broadcastInDim S4096x64x64 ![] bcast_S_S4096x64x64 (val_main_cst_50 (F := Ideal))))
          (mulf
            (broadcastInDim S4096x64x64 ![0, 1, 2] bcast_S4096x1x64_S4096x64x64_0_1_2
              (broadcastInDim S4096x1x64 ![0, 2] bcast_S4096x64_S4096x1x64_0_2 w))
            v)
          (val_main_call5_v1 (F := Ideal))))
      (val_main_call6_v0 (F := Ideal))

theorem broken_at (w : FVec Ideal S4096x64 .f32) (v : FVec Ideal S4096x64x64 .f32) (R : Fin 4096) (i j : Fin 64) :
    broken w v (ix3 R i j) = max (-w (ix2 R i) + (if 0 < v (ix3 R i j) then w (ix2 R j) * v (ix3 R i j)
      else id (constant (F := Ideal) S_ .f32 4286578688#32) ix0)) 0 := by
  pointwise [broken, val_main_cst_50, val_main_cst_51, val_main_call5_v0, val_main_call5_v1, val_main_call6_cst, val_main_call6_v0]

theorem broken_eq (x0 : Votes) (x1 : Heights) (x2 : Graphs) : val_main_v221 (F := Ideal) x0 x1 x2
    = broken (val_main_v210 (F := Ideal) x0 x1 x2) (val_main_v180 (F := Ideal) x0 x1 x2) := rfl

theorem const_id (b : BitVec 32) : id (constant (F := Ideal) S_ .f32 b) ix0 = Ideal.ofBits .f32 b := rfl

/-- One term of what is still broken. -/
theorem term_eq (a b : EReal) (p : Prop) [Decidable (0 < ind p)] :
    max (-a + (if 0 < ind p then b * ind p else ⊥)) 0 = max (b - a) 0 * ind p := by
  by_cases h : p
  · rw [if_pos (ind_pos.2 h), ind_true h, mul_one, mul_one, add_comm, sub_eq_add_neg]
  · rw [if_neg (fun h' => h (ind_pos.1 h')), ind_false h, mul_zero, EReal.add_bot]
    exact max_eq_right bot_le

theorem broken_ind {w : FVec Ideal S4096x64 .f32} {v : FVec Ideal S4096x64x64 .f32} {R : Fin 4096}
    {y : Fin 64 → EReal} {E : Fin 64 → Fin 64 → Prop} (hw : ∀ i, w (ix2 R i) = y i)
    (hv : ∀ i j, v (ix3 R i j) = ind (E i j)) (i j : Fin 64) :
    broken w v (ix3 R i j) = max (y j - y i) 0 * ind (E i j) := by
  rw [broken_at, hw, hw, hv, const_id, Row.lit_bot]
  exact term_eq _ _ _

/-! ## The last column -/

/-- The last column, given the heights `w` and what is still broken. -/
def last (w : FVec Ideal S4096x64 .f32) (b : FVec Ideal S4096 .f32) : FVec Ideal S4096 .f32 :=
  select (cmpf .ogt b (val_main_v223 (F := Ideal)))
    (addf (Host.reduce FloatOps.maximumf w (val_main_cst_54 (F := Ideal)) reducesTo_S4096x64_S4096_d1 h_S_) b)
    (val_main_call7_v1 (F := Ideal))

theorem last_at (w : FVec Ideal S4096x64 .f32) (b : FVec Ideal S4096 .f32) (R : Fin 4096) :
    last w b (ix1 R) = if 0 < b (ix1 R)
      then Finset.univ.fold max (Ideal.ofBits .f32 4286578688#32) (fun j : Fin 64 => w (ix2 R j)) + b (ix1 R)
      else id (constant (F := Ideal) S_ .f32 4286578688#32) ix0 := by
  pointwise [last, val_main_v223, val_main_cst_53, val_main_cst_54, val_main_call7_v1, val_main_call7_v0, val_main_cst_55]

theorem last_eq (x0 : Votes) (x1 : Heights) (x2 : Graphs) : val_main_v227 (F := Ideal) x0 x1 x2
    = last (val_main_v210 (F := Ideal) x0 x1 x2) (val_main_v222 (F := Ideal) x0 x1 x2) := rfl

/-- The heights with the last column beside them. -/
def joined (w : FVec Ideal S4096x64 .f32) (b : FVec Ideal S4096 .f32) : FVec Ideal S4096x65 .f32 :=
  concatenate S4096x65 1 [⟨S4096x64, w⟩, ⟨S4096x1, broadcastInDim S4096x1 ![0] bcast_S4096_S4096x1_0 b⟩]
    concatenates_S4096x64_S4096x1_S4096x65_d1

theorem joined_at (w : FVec Ideal S4096x64 .f32) (b : FVec Ideal S4096 .f32) (R : Fin 4096) (J : Fin 65) :
    joined w b (ix2 R J) = if h : J.val < 64 then w (ix2 R ⟨J.val, h⟩) else b (ix1 R) := by
  pointwise [joined]

theorem joined_eq (x0 : Votes) (x1 : Heights) (x2 : Graphs) : val_main_v229 (F := Ideal) x0 x1 x2
    = joined (val_main_v210 (F := Ideal) x0 x1 x2) (val_main_v227 (F := Ideal) x0 x1 x2) := rfl

theorem last_bottom {w : FVec Ideal S4096x64 .f32} {b : FVec Ideal S4096 .f32} {R : Fin 4096}
    {y : Fin 64 → EReal} {s : EReal} (hw : ∀ i, w (ix2 R i) = y i) (hb : b (ix1 R) = s) :
    last w b (ix1 R) = if 0 < s then Finset.univ.fold max ⊥ y + s else ⊥ := by
  rw [last_at, hb, const_id, Row.lit_bot, funext hw]

end Cert.RRow

end
-- ==== Proof.RResult.lean ====
module

public import proofs.«01_k».proof.Proof.RBroken

/-!
# The result the reference computes for a row

With the chosen relation the heights are kept or raised, what is still broken is summed, and the last
column follows.
-/

@[expose] public section

set_option maxRecDepth 16384

noncomputable section

namespace Cert.RRow

open Cert.ReferenceIdeal Cert.ReferenceIdeal.Gen Cert.ReferenceIdeal.Read Cert.Order Cert.RTables Idealize.ShloMosaic

variable {x2 : Graphs} {g : Fin 6 → Fin 64 → Fin 64 → Prop}

/-! ## The chosen relation -/

theorem place_a (x0 : Votes) (x1 : Heights) (R : Fin 4096) :
    val_main_v178 (F := Ideal) x0 x1 x2 (ix2 R 0) = BitVec.ofNat 32 (patt (votes x0 R)).val := by
  pointwise [val_main_v178, val_main_v176, val_main_v170, val_main_v169, val_main_v168, val_main_v167, val_main_v166, val_main_c_37, val_main_c_38]
  rw [pattern_word]
  exact wrap (by omega) _

theorem place_b (h1 : ∀ a i j, g a i j → x2 (ix3 a i j) = 1#32) (h0 : ∀ a i j, ¬ g a i j → x2 (ix3 a i j) = 0#32)
    (x0 : Votes) (x1 : Heights) (R : Fin 4096) :
    val_main_v178 (F := Ideal) x0 x1 x2 (ix2 R 1) = BitVec.ofNat 32 (choice g (patt (votes x0 R)) (heights x1 R)).val := by
  pointwise [val_main_v178, val_main_v177, val_main_v175, val_main_v174, val_main_v173, val_main_v172, val_main_v171, val_main_c_39, val_main_c_40]
  rw [choice_word h1 h0]
  exact wrap (by omega) _

theorem place_c (x0 : Votes) (x1 : Heights) (R : Fin 4096) :
    val_main_v193 (F := Ideal) x0 x1 x2 (ix2 R 0) = BitVec.ofNat 32 (patt (votes x0 R)).val := by
  pointwise [val_main_v193, val_main_v191, val_main_v185, val_main_v184, val_main_v183, val_main_v182, val_main_v181, val_main_c_41, val_main_c_42]
  rw [pattern_word]
  exact wrap (by omega) _

theorem place_d (h1 : ∀ a i j, g a i j → x2 (ix3 a i j) = 1#32) (h0 : ∀ a i j, ¬ g a i j → x2 (ix3 a i j) = 0#32)
    (x0 : Votes) (x1 : Heights) (R : Fin 4096) :
    val_main_v193 (F := Ideal) x0 x1 x2 (ix2 R 1) = BitVec.ofNat 32 (choice g (patt (votes x0 R)) (heights x1 R)).val := by
  pointwise [val_main_v193, val_main_v192, val_main_v190, val_main_v189, val_main_v188, val_main_v187, val_main_v186, val_main_c_43, val_main_c_44]
  rw [choice_word h1 h0]
  exact wrap (by omega) _

theorem chosen_at (h1 : ∀ a i j, g a i j → x2 (ix3 a i j) = 1#32) (h0 : ∀ a i j, ¬ g a i j → x2 (ix3 a i j) = 0#32)
    (x0 : Votes) (x1 : Heights) (R : Fin 4096) (i j : Fin 64) :
    val_main_v180 (F := Ideal) x0 x1 x2 (ix3 R i j) = ind (chosen g (votes x0 R) (heights x1 R) i j) := by
  have e : val_main_v180 (F := Ideal) x0 x1 x2 (ix3 R i j)
      = FloatOps.sitofp (F := Ideal) .f32 (val_main_v179 (F := Ideal) x0 x1 x2 (ix3 R i j)) := by
    pointwise [val_main_v180]
  have eg : val_main_v179 (F := Ideal) x0 x1 x2 (ix3 R i j) = val_main_v38 (F := Ideal) x2
      (ix4 (patt (votes x0 R)) (choice g (patt (votes x0 R)) (heights x1 R)) i j) :=
    RGather.relation (val_main_v38 (F := Ideal) x2) _ R i j _ _ (place_a x0 x1 R) (place_b h1 h0 x0 x1 R)
  rw [e, eg, union_word h1 h0, sitofp_word]
  rfl

theorem chosen_reach (h1 : ∀ a i j, g a i j → x2 (ix3 a i j) = 1#32) (h0 : ∀ a i j, ¬ g a i j → x2 (ix3 a i j) = 0#32)
    (x0 : Votes) (x1 : Heights) (R : Fin 4096) (i j : Fin 64) :
    val_main_v194 (F := Ideal) x0 x1 x2 (ix3 R i j) = ind (Reach (chosen g (votes x0 R) (heights x1 R)) i j) := by
  have eg : val_main_v194 (F := Ideal) x0 x1 x2 (ix3 R i j) = val_main_v91 (F := Ideal) x2
      (ix4 (patt (votes x0 R)) (choice g (patt (votes x0 R)) (heights x1 R)) i j) :=
    RGather.relation (val_main_v91 (F := Ideal) x2) _ R i j _ _ (place_c x0 x1 R) (place_d h1 h0 x0 x1 R)
  rw [eg, reach_at h1 h0]
  rfl

/-! ## The repair -/

theorem raised_at (h1 : ∀ a i j, g a i j → x2 (ix3 a i j) = 1#32) (h0 : ∀ a i j, ¬ g a i j → x2 (ix3 a i j) = 0#32)
    (x0 : Votes) (x1 : Heights) (R : Fin 4096) (i : Fin 64) :
    val_main_v199 (F := Ideal) x0 x1 x2 (ix2 R i)
      = raised (heights x1 R) (chosen g (votes x0 R) (heights x1 R)) i := by
  pointwise [val_main_v199, val_main_v198, val_main_v197, val_main_v196, val_main_v195, val_main_cst_45, val_main_cst_46, val_main_cst_47, val_main_call3_v0, val_main_call3_v1, val_main_call3_v2]
  unfold raised
  refine Eq.trans (congrArg (fun b => Finset.univ.fold max b _) Row.lit_bot) ?_
  refine Finset.fold_congr fun x _ => ?_
  rw [chosen_reach h1 h0]
  by_cases h : Reach (chosen g (votes x0 R) (heights x1 R)) i x
  · rw [if_pos (ind_pos.2 h), if_pos h]; rfl
  · rw [if_neg (fun h' => h (ind_pos.1 h')), if_neg h]; exact Row.lit_bot

theorem or_bits (p q : Prop) [Decidable p] [Decidable q] :
    IntOp.ori (BitVec.ofBool (decide p)) (BitVec.ofBool (decide q)) = BitVec.ofBool (decide (p ∨ q)) := by
  by_cases hp : p <;> by_cases hq : q <;> simp [hp, hq] <;> decide

theorem all_bits (x0 : Votes) (x1 : Heights) (R : Fin 4096) :
    val_main_v208 (F := Ideal) x0 x1 x2 (ix1 R) = Finset.univ.fold IntOp.andi 1#1 (fun q : Fin 64 × Fin 64 =>
      BitVec.ofBool (decide (val_main_v180 (F := Ideal) x0 x1 x2 (ix3 R q.1 q.2) = 0 ∨ x1 (ix2 R q.2) ≤ x1 (ix2 R q.1)))) := by
  have e : val_main_v208 (F := Ideal) x0 x1 x2 (ix1 R) = Finset.univ.fold IntOp.andi 1#1 (fun q : Fin 64 × Fin 64 =>
      IntOp.ori (BitVec.ofBool (decide (val_main_v180 (F := Ideal) x0 x1 x2 (ix3 R q.1 q.2) = 0)))
        (BitVec.ofBool (decide (x1 (ix2 R q.2) ≤ x1 (ix2 R q.1))))) := by
    pointwise [val_main_v208, val_main_v207, val_main_v206, val_main_v205, val_main_v204, val_main_v203, val_main_v202, val_main_v201, val_main_v200, val_main_c_49, val_main_cst_48]
  rw [e]
  exact Finset.fold_congr fun q _ => or_bits _ _

open Classical in
theorem sat_bit (h1 : ∀ a i j, g a i j → x2 (ix3 a i j) = 1#32) (h0 : ∀ a i j, ¬ g a i j → x2 (ix3 a i j) = 0#32)
    (x0 : Votes) (x1 : Heights) (R : Fin 4096) : val_main_v208 (F := Ideal) x0 x1 x2 (ix1 R)
      = BitVec.ofBool (decide (Sat (heights x1 R) (chosen g (votes x0 R) (heights x1 R)))) := by
  have h : (∀ q : Fin 64 × Fin 64, val_main_v180 (F := Ideal) x0 x1 x2 (ix3 R q.1 q.2) = 0 ∨ x1 (ix2 R q.2) ≤ x1 (ix2 R q.1))
      ↔ Sat (heights x1 R) (chosen g (votes x0 R) (heights x1 R)) := by
    constructor
    · intro h i j hij
      have hq := h (i, j)
      rw [chosen_at h1 h0, ind_eq_zero] at hq
      exact hq.resolve_left fun hn => hn hij
    · intro h q
      rw [chosen_at h1 h0, ind_eq_zero]
      by_cases hq : chosen g (votes x0 R) (heights x1 R) q.1 q.2
      · exact Or.inr (h _ _ hq)
      · exact Or.inl hq
  rw [all_bits, fold_and]
  exact congrArg BitVec.ofBool (decide_eq_decide.2 h)

theorem select_true {α : Type} (a b : α) : Scalar.select (BitVec.ofBool true) a b = a := rfl

theorem select_false {α : Type} (a b : α) : Scalar.select (BitVec.ofBool false) a b = b := rfl

theorem sat_true (h1 : ∀ a i j, g a i j → x2 (ix3 a i j) = 1#32) (h0 : ∀ a i j, ¬ g a i j → x2 (ix3 a i j) = 0#32)
    (x0 : Votes) (x1 : Heights) (R : Fin 4096) (h : Sat (heights x1 R) (chosen g (votes x0 R) (heights x1 R))) :
    val_main_v208 (F := Ideal) x0 x1 x2 (ix1 R) = BitVec.ofBool true :=
  (sat_bit h1 h0 x0 x1 R).trans (congrArg BitVec.ofBool (@decide_eq_true _ (Classical.propDecidable _) h))

theorem sat_false (h1 : ∀ a i j, g a i j → x2 (ix3 a i j) = 1#32) (h0 : ∀ a i j, ¬ g a i j → x2 (ix3 a i j) = 0#32)
    (x0 : Votes) (x1 : Heights) (R : Fin 4096) (h : ¬ Sat (heights x1 R) (chosen g (votes x0 R) (heights x1 R))) :
    val_main_v208 (F := Ideal) x0 x1 x2 (ix1 R) = BitVec.ofBool false :=
  (sat_bit h1 h0 x0 x1 R).trans (congrArg BitVec.ofBool (@decide_eq_false _ (Classical.propDecidable _) h))

theorem repaired_at (h1 : ∀ a i j, g a i j → x2 (ix3 a i j) = 1#32) (h0 : ∀ a i j, ¬ g a i j → x2 (ix3 a i j) = 0#32)
    (x0 : Votes) (x1 : Heights) (R : Fin 4096) (i : Fin 64) :
    val_main_v210 (F := Ideal) x0 x1 x2 (ix2 R i)
      = repaired (heights x1 R) (chosen g (votes x0 R) (heights x1 R)) i := by
  have e : val_main_v210 (F := Ideal) x0 x1 x2 (ix2 R i) = Scalar.select (val_main_v208 (F := Ideal) x0 x1 x2 (ix1 R))
      (x1 (ix2 R i)) (val_main_v199 (F := Ideal) x0 x1 x2 (ix2 R i)) := by
    pointwise [val_main_v210, val_main_v209, val_main_call4_v0]
  rw [e, raised_at h1 h0]
  unfold repaired
  by_cases h : Sat (heights x1 R) (chosen g (votes x0 R) (heights x1 R))
  · rw [sat_true h1 h0 x0 x1 R h, select_true, if_pos h]
    unfold heights
    rfl
  · rw [sat_false h1 h0 x0 x1 R h, select_false, if_neg h]

/-! ## What is still broken -/

theorem term_at (h1 : ∀ a i j, g a i j → x2 (ix3 a i j) = 1#32) (h0 : ∀ a i j, ¬ g a i j → x2 (ix3 a i j) = 0#32)
    (x0 : Votes) (x1 : Heights) (R : Fin 4096) (i j : Fin 64) :
    val_main_v221 (F := Ideal) x0 x1 x2 (ix3 R i j)
      = max (repaired (heights x1 R) (chosen g (votes x0 R) (heights x1 R)) j
        - repaired (heights x1 R) (chosen g (votes x0 R) (heights x1 R)) i) 0
        * ind (chosen g (votes x0 R) (heights x1 R) i j) := by
  rw [broken_eq]
  exact broken_ind (repaired_at h1 h0 x0 x1 R) (chosen_at h1 h0 x0 x1 R) i j

theorem left_at (h1 : ∀ a i j, g a i j → x2 (ix3 a i j) = 1#32) (h0 : ∀ a i j, ¬ g a i j → x2 (ix3 a i j) = 0#32)
    (x0 : Votes) (x1 : Heights) (R : Fin 4096) :
    val_main_v222 (F := Ideal) x0 x1 x2 (ix1 R)
      = viol (repaired (heights x1 R) (chosen g (votes x0 R) (heights x1 R))) (chosen g (votes x0 R) (heights x1 R)) := by
  have e : val_main_v222 (F := Ideal) x0 x1 x2 (ix1 R)
      = ∑ i : Fin 64, ∑ j : Fin 64, val_main_v221 (F := Ideal) x0 x1 x2 (ix3 R i j) := by
    pointwise [val_main_v222, val_main_cst_52]
  rw [e]
  exact Finset.sum_congr rfl fun i _ => Finset.sum_congr rfl fun j _ => term_at h1 h0 x0 x1 R i j

/-! ## The result -/

theorem result_at (h1 : ∀ a i j, g a i j → x2 (ix3 a i j) = 1#32) (h0 : ∀ a i j, ¬ g a i j → x2 (ix3 a i j) = 0#32)
    (x0 : Votes) (x1 : Heights) (R : Fin 4096) (J : Fin 65) :
    val_main_v229 (F := Ideal) x0 x1 x2 (ix2 R J) = answer g (votes x0 R) (heights x1 R) J := by
  rw [joined_eq, joined_at]
  unfold answer
  by_cases h : J.val < 64
  · rw [dif_pos h, dif_pos h, repaired_at h1 h0]
  · rw [dif_neg h, dif_neg h, last_eq, last_bottom (repaired_at h1 h0 x0 x1 R) (left_at h1 h0 x0 x1 R)]
    unfold bottom
    by_cases hv : 0 < viol (repaired (heights x1 R) (chosen g (votes x0 R) (heights x1 R))) (chosen g (votes x0 R) (heights x1 R))
    · rw [if_pos hv]
    · rw [if_neg hv]

end Cert.RRow

end
-- ==== Proof.Pre.lean ====
module

public import proofs.«01_k».proof.Proof.Gen.Pre_graphs_and_scores
public import proofs.«01_k».proof.Proof.KTables
public import proofs.«01_k».proof.Proof.KRow

/-!
# Reading the precondition

The heights are finite, and a graph holds zeros and ones with no one on a diagonal.
-/

@[expose] public section

set_option maxRecDepth 16384

noncomputable section

namespace Cert.Reading

open Cert.Pre_graphs_and_scores Cert.Order Idealize.ShloMosaic

variable {x : FVec Ideal S4096x128 .f32} {y : FVec Ideal S4096x64 .f32} {z : IVec S6x64x64 32}

theorem finite [Facts] (h : (fn (F := Ideal) x y z).1 = fun _ => 1#1) (R : Fin 4096) (j : Fin 64) :
    (y (ix2 R j) : EReal) ≠ ⊤ ∧ (y (ix2 R j) : EReal) ≠ ⊥ := by
  have e : (fn (F := Ideal) x y z).1 (ix2 R j)
      = BitVec.ofBool (decide (max (y (ix2 R j) : EReal) (-(y (ix2 R j) : EReal)) < Ideal.ofBits .f32 0x7F800000#32)) := by
    pointwise [fn]
    rfl
  have hv : _ = 1#1 := e.symm.trans (congrFun h (ix2 R j))
  rw [Row.lit_top] at hv
  have hlt : max (y (ix2 R j) : EReal) (-(y (ix2 R j) : EReal)) < ⊤ := by
    by_contra hn
    rw [decide_eq_false hn] at hv
    exact absurd hv (by decide)
  rw [max_lt_iff] at hlt
  refine ⟨hlt.1.ne, fun hb => ?_⟩
  rw [hb, EReal.neg_bot] at hlt
  exact lt_irrefl _ hlt.2

theorem words [Facts] (h : (fn (F := Ideal) x y z).2 = fun _ => 1#1) (a : Fin 6) (i j : Fin 64) :
    z (ix3 a i j) = 0#32 ∨ (z (ix3 a i j) = 1#32 ∧ i ≠ j) := by
  have e : (fn (F := Ideal) x y z).2 (ix3 a i j)
      = IntOp.ori (IntOp.cmpi .eq (z (ix3 a i j)) 0#32) (IntOp.andi (IntOp.cmpi .eq (z (ix3 a i j)) 1#32)
        (IntOp.cmpi .ne (BitVec.ofNat 32 i.val) (BitVec.ofNat 32 j.val))) := by
    pointwise [fn]
  have hv : _ = 1#1 := e.symm.trans (congrFun h (ix3 a i j))
  clear e
  by_cases h0 : z (ix3 a i j) = 0#32
  · exact Or.inl h0
  by_cases h1 : z (ix3 a i j) = 1#32
  · refine Or.inr ⟨h1, fun hij => ?_⟩
    subst hij
    rw [h1] at hv
    have : IntOp.cmpi .ne (BitVec.ofNat 32 i.val) (BitVec.ofNat 32 i.val) = 0#1 := by
      unfold IntOp.cmpi
      simp
    rw [this] at hv
    exact absurd hv (by decide)
  · exfalso
    have e0 : IntOp.cmpi .eq (z (ix3 a i j)) 0#32 = 0#1 := by
      unfold IntOp.cmpi
      rw [beq_eq_false_iff_ne.2 h0]
      rfl
    have e1 : IntOp.cmpi .eq (z (ix3 a i j)) 1#32 = 0#1 := by
      unfold IntOp.cmpi
      rw [beq_eq_false_iff_ne.2 h1]
      rfl
    rw [e0, e1] at hv
    revert hv
    generalize IntOp.cmpi .ne (BitVec.ofNat 32 i.val) (BitVec.ofNat 32 j.val) = b
    revert b
    decide

end Cert.Reading

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_graphs_and_scores
public import Idealize.ShloMosaic.Adequacy
public import Idealize.ShloMosaic.Init
public import proofs.«01_k».proof.Proof.KRun
public import proofs.«01_k».proof.Proof.RResult
public import proofs.«01_k».proof.Proof.Pre

/-!
# The assembled claim

The frames come from the generated modules and from the reference's run. The two named constants hold by their
definition. For the values, both programs' results are each row's `answer`.
-/

@[expose] public section

set_option maxRecDepth 16384

noncomputable section

namespace Cert.Proof

open Idealize.ShloMosaic Idealize.ShloMosaic.TcCoe Idealize.SL.Sem Cert.Order

/-- The reference's arguments end as launched. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m g)

theorem preserved : Cert.preserves_Kernel_KernelIdeal :=
  ⟨IdealRules.named_const.statement Cert.KernelIdeal.κ "pos_inf" .f32 0x7F61B1E6#32 ⊤ rfl,
    IdealRules.named_const.statement Cert.KernelIdeal.κ "neg_inf" .f32 0xF149F2CA#32 ⊥ rfl⟩

/-- From memories that agree on the arguments and meet the precondition, both programs end with one result. -/
theorem algebraic : Cert.algebraic_KernelIdeal_ReferenceIdeal_pre_graphs_and_scores := by
  intro m g m' g' hpre hagree
  refine ⟨fun c => Cert.KernelIdeal.Gen.W5 m g c Cert.KernelIdeal.main_v5, Cert.KRun.run m g, ?_⟩
  refine (θ_run Cert.ReferenceIdeal.defs _ _).mono (fun r h c => ⟨(h c).1.trans ?_, (h c).2⟩)
    (Cert.ReferenceIdeal.Value.run (F := Ideal) m' g')
  refine (Cert.ReferenceIdeal.Read.val_main_v229_eq (F := Ideal) (StableHlo.launchContents m' c)).trans ?_
  obtain ⟨hx, hy, hz⟩ := hagree c
  obtain ⟨hp1, hp2⟩ := hpre c
  rw [show StableHlo.launchContents m' c (Proc.devRef .tc Cert.ReferenceIdeal.main_arg0) = _ from hx,
    show StableHlo.launchContents m' c (Proc.devRef .tc Cert.ReferenceIdeal.main_arg1) = _ from hy,
    show StableHlo.launchContents m' c (Proc.devRef .tc Cert.ReferenceIdeal.main_arg2) = _ from hz]
  have hw := Cert.Reading.words hp2
  have hf := Cert.Reading.finite hp1
  have h1 : ∀ a i j, (m ((c.tc : Thread Cert.KernelIdeal.nD Cert.KernelIdeal.τ).loc Cert.KernelIdeal.main_arg2) (ix3 a i j) = 1#32) →
    m ((c.tc : Thread Cert.KernelIdeal.nD Cert.KernelIdeal.τ).loc Cert.KernelIdeal.main_arg2) (ix3 a i j) = 1#32 := fun _ _ _ h => h
  have h0 : ∀ a i j, ¬ (m ((c.tc : Thread Cert.KernelIdeal.nD Cert.KernelIdeal.τ).loc Cert.KernelIdeal.main_arg2) (ix3 a i j) = 1#32) →
    m ((c.tc : Thread Cert.KernelIdeal.nD Cert.KernelIdeal.τ).loc Cert.KernelIdeal.main_arg2) (ix3 a i j) = 0#32 :=
    fun a i j h => (hw a i j).resolve_right fun h' => h h'.1
  have hg : ∀ a i, ¬ (m ((c.tc : Thread Cert.KernelIdeal.nD Cert.KernelIdeal.τ).loc Cert.KernelIdeal.main_arg2) (ix3 a i i) = 1#32) := by
    intro a i h
    rcases hw a i i with h' | h'
    · exact absurd (show (1#32 : BitVec 32) = 0#32 from h.symm.trans h') (by decide)
    · exact h'.2 rfl
  funext i
  obtain ⟨R, J, rfl⟩ : ∃ (R : Fin 4096) (J : Fin 65), i = (ix2 R J : Cert.ReferenceIdeal.S4096x65.Idx) :=
    ⟨i 0, i 1, funext fun a => by fin_cases a <;> rfl⟩
  refine (Cert.RRow.result_at h1 h0 _ _ R J).trans ?_
  exact (Cert.KRun.value m g c hg h1 h0 (fun _ _ => rfl) (fun _ _ => rfl) hf R J).symm

theorem claim : Cert.Claim := ⟨Cert.Kernel.Gen.facts, Cert.KernelIdeal.Gen.facts, Cert.ReferenceIdeal.Gen.facts, Cert.Pre_graphs_and_scores.Gen.facts,
  fun m ρ _ => Cert.Kernel.Gen.frame m ρ, fun m ρ _ => Cert.KernelIdeal.Gen.frame m ρ,
  fun m ρ _ => Cert.KernelIdeal.Gen.frame m ρ, fun m ρ _ => frame_reference m ρ, fun m ρ _ => frame_reference m ρ,
  preserved, algebraic⟩

end Cert.Proof

end
